-- ==== Defs.lean ====
def Pre_Sw (m : (ℓ : Loc Cert.Sw.nD Cert.Sw.τ Cert.Sw.sig) → Buf (Elt Bits) ℓ) : Prop :=
  True

def Pre_SwIdeal (m : (ℓ : Loc Cert.SwIdeal.nD Cert.SwIdeal.τ Cert.SwIdeal.sig) → Buf (Elt Ideal) ℓ) : Prop :=
  True

def Pre_SwIdeal_finite [hPre_finite : Cert.Pre_finite.Facts] (m : (ℓ : Loc Cert.SwIdeal.nD Cert.SwIdeal.τ Cert.SwIdeal.sig) → Buf (Elt Ideal) ℓ) : Prop :=
  ∀ c : Dev Cert.SwIdeal.nD,
    (Cert.Pre_finite.fn (F := Ideal) (m ((c.tc : Thread Cert.SwIdeal.nD Cert.SwIdeal.τ).loc Cert.SwIdeal.main_arg0)) (m ((c.tc : Thread Cert.SwIdeal.nD Cert.SwIdeal.τ).loc Cert.SwIdeal.main_arg1))).1 = (fun _ => 1#1)
    ∧ (Cert.Pre_finite.fn (F := Ideal) (m ((c.tc : Thread Cert.SwIdeal.nD Cert.SwIdeal.τ).loc Cert.SwIdeal.main_arg0)) (m ((c.tc : Thread Cert.SwIdeal.nD Cert.SwIdeal.τ).loc Cert.SwIdeal.main_arg1))).2 = (fun _ => 1#1)

def Pre_SwRefIdeal (m : (ℓ : Loc Cert.SwRefIdeal.nD Cert.SwRefIdeal.τ Cert.SwRefIdeal.sig) → Buf (Elt Ideal) ℓ) : Prop :=
  True

def Pre_SwRefIdeal_finite [hPre_finite : Cert.Pre_finite.Facts] (m : (ℓ : Loc Cert.SwRefIdeal.nD Cert.SwRefIdeal.τ Cert.SwRefIdeal.sig) → Buf (Elt Ideal) ℓ) : Prop :=
  ∀ c : Dev Cert.SwRefIdeal.nD,
    (Cert.Pre_finite.fn (F := Ideal) (m ((c.tc : Thread Cert.SwRefIdeal.nD Cert.SwRefIdeal.τ).loc Cert.SwRefIdeal.main_arg0)) (m ((c.tc : Thread Cert.SwRefIdeal.nD Cert.SwRefIdeal.τ).loc Cert.SwRefIdeal.main_arg1))).1 = (fun _ => 1#1)
    ∧ (Cert.Pre_finite.fn (F := Ideal) (m ((c.tc : Thread Cert.SwRefIdeal.nD Cert.SwRefIdeal.τ).loc Cert.SwRefIdeal.main_arg0)) (m ((c.tc : Thread Cert.SwRefIdeal.nD Cert.SwRefIdeal.τ).loc Cert.SwRefIdeal.main_arg1))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjSample (m : (ℓ : Loc Cert.OutProjSample.nD Cert.OutProjSample.τ Cert.OutProjSample.sig) → Buf (Elt Bits) ℓ) : Prop :=
  True

def Pre_OutProjSampleIdeal (m : (ℓ : Loc Cert.OutProjSampleIdeal.nD Cert.OutProjSampleIdeal.τ Cert.OutProjSampleIdeal.sig) → Buf (Elt Ideal) ℓ) : Prop :=
  True

def Pre_OutProjSampleRefIdeal (m : (ℓ : Loc Cert.OutProjSampleRefIdeal.nD Cert.OutProjSampleRefIdeal.τ Cert.OutProjSampleRefIdeal.sig) → Buf (Elt Ideal) ℓ) : Prop :=
  True

def quiescent_Sw [hSw : Cert.Sw.Facts] : Prop :=
  ∀ (m : (ℓ : Loc Cert.Sw.nD Cert.Sw.τ Cert.Sw.sig) → Buf (Elt Bits) ℓ) (g : Dev Cert.Sw.nD → PrngReg), Pre_Sw m →
    θ_run (Cert.Sw.defs (F := Bits)) (onTc (τ := Cert.Sw.τ) (Cert.Sw.main (F := Bits))) ⟨m, fun _ => 0, g⟩ (fun r => (∀ c : Dev Cert.Sw.nD,
      r.2.mem ((c.tc : Thread Cert.Sw.nD Cert.Sw.τ).loc Cert.Sw.main_arg0) = m ((c.tc : Thread Cert.Sw.nD Cert.Sw.τ).loc Cert.Sw.main_arg0)
      ∧ r.2.mem ((c.tc : Thread Cert.Sw.nD Cert.Sw.τ).loc Cert.Sw.main_arg1) = m ((c.tc : Thread Cert.Sw.nD Cert.Sw.τ).loc Cert.Sw.main_arg1))
      ∧ r.2.sem = fun _ => 0)

def quiescent_SwIdeal [hSwIdeal : Cert.SwIdeal.Facts] : Prop :=
  ∀ (m : (ℓ : Loc Cert.SwIdeal.nD Cert.SwIdeal.τ Cert.SwIdeal.sig) → Buf (Elt Ideal) ℓ) (g : Dev Cert.SwIdeal.nD → PrngReg), Pre_SwIdeal m →
    θ_run (Cert.SwIdeal.defs (F := Ideal)) (onTc (τ := Cert.SwIdeal.τ) (Cert.SwIdeal.main (F := Ideal))) ⟨m, fun _ => 0, g⟩ (fun r => (∀ c : Dev Cert.SwIdeal.nD,
      r.2.mem ((c.tc : Thread Cert.SwIdeal.nD Cert.SwIdeal.τ).loc Cert.SwIdeal.main_arg0) = m ((c.tc : Thread Cert.SwIdeal.nD Cert.SwIdeal.τ).loc Cert.SwIdeal.main_arg0)
      ∧ r.2.mem ((c.tc : Thread Cert.SwIdeal.nD Cert.SwIdeal.τ).loc Cert.SwIdeal.main_arg1) = m ((c.tc : Thread Cert.SwIdeal.nD Cert.SwIdeal.τ).loc Cert.SwIdeal.main_arg1))
      ∧ r.2.sem = fun _ => 0)

def quiescent_SwIdeal_pre_finite [hSwIdeal : Cert.SwIdeal.Facts] [hPre_finite : Cert.Pre_finite.Facts] : Prop :=
  ∀ (m : (ℓ : Loc Cert.SwIdeal.nD Cert.SwIdeal.τ Cert.SwIdeal.sig) → Buf (Elt Ideal) ℓ) (g : Dev Cert.SwIdeal.nD → PrngReg), Pre_SwIdeal_finite m →
    θ_run (Cert.SwIdeal.defs (F := Ideal)) (onTc (τ := Cert.SwIdeal.τ) (Cert.SwIdeal.main (F := Ideal))) ⟨m, fun _ => 0, g⟩ (fun r => (∀ c : Dev Cert.SwIdeal.nD,
      r.2.mem ((c.tc : Thread Cert.SwIdeal.nD Cert.SwIdeal.τ).loc Cert.SwIdeal.main_arg0) = m ((c.tc : Thread Cert.SwIdeal.nD Cert.SwIdeal.τ).loc Cert.SwIdeal.main_arg0)
      ∧ r.2.mem ((c.tc : Thread Cert.SwIdeal.nD Cert.SwIdeal.τ).loc Cert.SwIdeal.main_arg1) = m ((c.tc : Thread Cert.SwIdeal.nD Cert.SwIdeal.τ).loc Cert.SwIdeal.main_arg1))
      ∧ r.2.sem = fun _ => 0)

def quiescent_SwRefIdeal [hSwRefIdeal : Cert.SwRefIdeal.Facts] : Prop :=
  ∀ (m : (ℓ : Loc Cert.SwRefIdeal.nD Cert.SwRefIdeal.τ Cert.SwRefIdeal.sig) → Buf (Elt Ideal) ℓ) (g : Dev Cert.SwRefIdeal.nD → PrngReg), Pre_SwRefIdeal m →
    θ_run (Cert.SwRefIdeal.defs (F := Ideal)) (onTc (τ := Cert.SwRefIdeal.τ) (Cert.SwRefIdeal.main (F := Ideal))) ⟨m, fun _ => 0, g⟩ (fun r => (∀ c : Dev Cert.SwRefIdeal.nD,
      r.2.mem ((c.tc : Thread Cert.SwRefIdeal.nD Cert.SwRefIdeal.τ).loc Cert.SwRefIdeal.main_arg0) = m ((c.tc : Thread Cert.SwRefIdeal.nD Cert.SwRefIdeal.τ).loc Cert.SwRefIdeal.main_arg0)
      ∧ r.2.mem ((c.tc : Thread Cert.SwRefIdeal.nD Cert.SwRefIdeal.τ).loc Cert.SwRefIdeal.main_arg1) = m ((c.tc : Thread Cert.SwRefIdeal.nD Cert.SwRefIdeal.τ).loc Cert.SwRefIdeal.main_arg1))
      ∧ r.2.sem = fun _ => 0)

def quiescent_SwRefIdeal_pre_finite [hSwRefIdeal : Cert.SwRefIdeal.Facts] [hPre_finite : Cert.Pre_finite.Facts] : Prop :=
  ∀ (m : (ℓ : Loc Cert.SwRefIdeal.nD Cert.SwRefIdeal.τ Cert.SwRefIdeal.sig) → Buf (Elt Ideal) ℓ) (g : Dev Cert.SwRefIdeal.nD → PrngReg), Pre_SwRefIdeal_finite m →
    θ_run (Cert.SwRefIdeal.defs (F := Ideal)) (onTc (τ := Cert.SwRefIdeal.τ) (Cert.SwRefIdeal.main (F := Ideal))) ⟨m, fun _ => 0, g⟩ (fun r => (∀ c : Dev Cert.SwRefIdeal.nD,
      r.2.mem ((c.tc : Thread Cert.SwRefIdeal.nD Cert.SwRefIdeal.τ).loc Cert.SwRefIdeal.main_arg0) = m ((c.tc : Thread Cert.SwRefIdeal.nD Cert.SwRefIdeal.τ).loc Cert.SwRefIdeal.main_arg0)
      ∧ r.2.mem ((c.tc : Thread Cert.SwRefIdeal.nD Cert.SwRefIdeal.τ).loc Cert.SwRefIdeal.main_arg1) = m ((c.tc : Thread Cert.SwRefIdeal.nD Cert.SwRefIdeal.τ).loc Cert.SwRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_OutProjSample [hOutProjSample : Cert.OutProjSample.Facts] : Prop :=
  ∀ (m : (ℓ : Loc Cert.OutProjSample.nD Cert.OutProjSample.τ Cert.OutProjSample.sig) → Buf (Elt Bits) ℓ) (g : Dev Cert.OutProjSample.nD → PrngReg), Pre_OutProjSample m →
    θ_run (Cert.OutProjSample.defs (F := Bits)) (onTc (τ := Cert.OutProjSample.τ) (Cert.OutProjSample.main (F := Bits))) ⟨m, fun _ => 0, g⟩ (fun r => (∀ c : Dev Cert.OutProjSample.nD,
      r.2.mem ((c.tc : Thread Cert.OutProjSample.nD Cert.OutProjSample.τ).loc Cert.OutProjSample.main_arg0) = m ((c.tc : Thread Cert.OutProjSample.nD Cert.OutProjSample.τ).loc Cert.OutProjSample.main_arg0)
      ∧ r.2.mem ((c.tc : Thread Cert.OutProjSample.nD Cert.OutProjSample.τ).loc Cert.OutProjSample.main_arg1) = m ((c.tc : Thread Cert.OutProjSample.nD Cert.OutProjSample.τ).loc Cert.OutProjSample.main_arg1)
      ∧ r.2.mem ((c.tc : Thread Cert.OutProjSample.nD Cert.OutProjSample.τ).loc Cert.OutProjSample.main_arg2) = m ((c.tc : Thread Cert.OutProjSample.nD Cert.OutProjSample.τ).loc Cert.OutProjSample.main_arg2)
      ∧ r.2.mem ((c.tc : Thread Cert.OutProjSample.nD Cert.OutProjSample.τ).loc Cert.OutProjSample.main_arg3) = m ((c.tc : Thread Cert.OutProjSample.nD Cert.OutProjSample.τ).loc Cert.OutProjSample.main_arg3)
      ∧ r.2.mem ((c.tc : Thread Cert.OutProjSample.nD Cert.OutProjSample.τ).loc Cert.OutProjSample.main_arg4) = m ((c.tc : Thread Cert.OutProjSample.nD Cert.OutProjSample.τ).loc Cert.OutProjSample.main_arg4)
      ∧ r.2.mem ((c.tc : Thread Cert.OutProjSample.nD Cert.OutProjSample.τ).loc Cert.OutProjSample.main_arg5) = m ((c.tc : Thread Cert.OutProjSample.nD Cert.OutProjSample.τ).loc Cert.OutProjSample.main_arg5)
      ∧ r.2.mem ((c.tc : Thread Cert.OutProjSample.nD Cert.OutProjSample.τ).loc Cert.OutProjSample.main_arg6) = m ((c.tc : Thread Cert.OutProjSample.nD Cert.OutProjSample.τ).loc Cert.OutProjSample.main_arg6)
      ∧ r.2.mem ((c.tc : Thread Cert.OutProjSample.nD Cert.OutProjSample.τ).loc Cert.OutProjSample.main_arg7) = m ((c.tc : Thread Cert.OutProjSample.nD Cert.OutProjSample.τ).loc Cert.OutProjSample.main_arg7)
      ∧ r.2.mem ((c.tc : Thread Cert.OutProjSample.nD Cert.OutProjSample.τ).loc Cert.OutProjSample.main_arg8) = m ((c.tc : Thread Cert.OutProjSample.nD Cert.OutProjSample.τ).loc Cert.OutProjSample.main_arg8))
      ∧ r.2.sem = fun _ => 0)

def quiescent_OutProjSampleIdeal [hOutProjSampleIdeal : Cert.OutProjSampleIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg), Pre_OutProjSampleIdeal m →
    θ_run (Cert.OutProjSampleIdeal.defs (F := Ideal)) (onTc (τ := Cert.OutProjSampleIdeal.τ) (Cert.OutProjSampleIdeal.main (F := Ideal))) ⟨m, fun _ => 0, g⟩ (fun r => (∀ c : Dev Cert.OutProjSampleIdeal.nD,
      r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
      ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
      ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
      ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
      ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
      ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5)
      ∧ r.2.mem ((c.tc : Thread Cert.OutProjSampleIdeal.nD Cert.OutProjSampleIdeal.τ).loc Cert.OutProjSampleIdeal.main_arg6) = m ((c.tc : Thread Cert.OutProjSampleIdeal.nD Cert.OutProjSampleIdeal.τ).loc Cert.OutProjSampleIdeal.main_arg6)
      ∧ r.2.mem ((c.tc : Thread Cert.OutProjSampleIdeal.nD Cert.OutProjSampleIdeal.τ).loc Cert.OutProjSampleIdeal.main_arg7) = m ((c.tc : Thread Cert.OutProjSampleIdeal.nD Cert.OutProjSampleIdeal.τ).loc Cert.OutProjSampleIdeal.main_arg7)
      ∧ r.2.mem ((c.tc : Thread Cert.OutProjSampleIdeal.nD Cert.OutProjSampleIdeal.τ).loc Cert.OutProjSampleIdeal.main_arg8) = m ((c.tc : Thread Cert.OutProjSampleIdeal.nD Cert.OutProjSampleIdeal.τ).loc Cert.OutProjSampleIdeal.main_arg8))
      ∧ r.2.sem = fun _ => 0)

def quiescent_OutProjSampleRefIdeal [hOutProjSampleRefIdeal : Cert.OutProjSampleRefIdeal.Facts] : Prop :=
  ∀ (m : (ℓ : Loc Cert.OutProjSampleRefIdeal.nD Cert.OutProjSampleRefIdeal.τ Cert.OutProjSampleRefIdeal.sig) → Buf (Elt Ideal) ℓ) (g : Dev Cert.OutProjSampleRefIdeal.nD → PrngReg), Pre_OutProjSampleRefIdeal m →
    θ_run (Cert.OutProjSampleRefIdeal.defs (F := Ideal)) (onTc (τ := Cert.OutProjSampleRefIdeal.τ) (Cert.OutProjSampleRefIdeal.main (F := Ideal))) ⟨m, fun _ => 0, g⟩ (fun r => (∀ c : Dev Cert.OutProjSampleRefIdeal.nD,
      r.2.mem ((c.tc : Thread Cert.OutProjSampleRefIdeal.nD Cert.OutProjSampleRefIdeal.τ).loc Cert.OutProjSampleRefIdeal.main_arg0) = m ((c.tc : Thread Cert.OutProjSampleRefIdeal.nD Cert.OutProjSampleRefIdeal.τ).loc Cert.OutProjSampleRefIdeal.main_arg0)
      ∧ r.2.mem ((c.tc : Thread Cert.OutProjSampleRefIdeal.nD Cert.OutProjSampleRefIdeal.τ).loc Cert.OutProjSampleRefIdeal.main_arg1) = m ((c.tc : Thread Cert.OutProjSampleRefIdeal.nD Cert.OutProjSampleRefIdeal.τ).loc Cert.OutProjSampleRefIdeal.main_arg1)
      ∧ r.2.mem ((c.tc : Thread Cert.OutProjSampleRefIdeal.nD Cert.OutProjSampleRefIdeal.τ).loc Cert.OutProjSampleRefIdeal.main_arg2) = m ((c.tc : Thread Cert.OutProjSampleRefIdeal.nD Cert.OutProjSampleRefIdeal.τ).loc Cert.OutProjSampleRefIdeal.main_arg2)
      ∧ r.2.mem ((c.tc : Thread Cert.OutProjSampleRefIdeal.nD Cert.OutProjSampleRefIdeal.τ).loc Cert.OutProjSampleRefIdeal.main_arg3) = m ((c.tc : Thread Cert.OutProjSampleRefIdeal.nD Cert.OutProjSampleRefIdeal.τ).loc Cert.OutProjSampleRefIdeal.main_arg3)
      ∧ r.2.mem ((c.tc : Thread Cert.OutProjSampleRefIdeal.nD Cert.OutProjSampleRefIdeal.τ).loc Cert.OutProjSampleRefIdeal.main_arg4) = m ((c.tc : Thread Cert.OutProjSampleRefIdeal.nD Cert.OutProjSampleRefIdeal.τ).loc Cert.OutProjSampleRefIdeal.main_arg4)
      ∧ r.2.mem ((c.tc : Thread Cert.OutProjSampleRefIdeal.nD Cert.OutProjSampleRefIdeal.τ).loc Cert.OutProjSampleRefIdeal.main_arg5) = m ((c.tc : Thread Cert.OutProjSampleRefIdeal.nD Cert.OutProjSampleRefIdeal.τ).loc Cert.OutProjSampleRefIdeal.main_arg5)
      ∧ r.2.mem ((c.tc : Thread Cert.OutProjSampleRefIdeal.nD Cert.OutProjSampleRefIdeal.τ).loc Cert.OutProjSampleRefIdeal.main_arg6) = m ((c.tc : Thread Cert.OutProjSampleRefIdeal.nD Cert.OutProjSampleRefIdeal.τ).loc Cert.OutProjSampleRefIdeal.main_arg6)
      ∧ r.2.mem ((c.tc : Thread Cert.OutProjSampleRefIdeal.nD Cert.OutProjSampleRefIdeal.τ).loc Cert.OutProjSampleRefIdeal.main_arg7) = m ((c.tc : Thread Cert.OutProjSampleRefIdeal.nD Cert.OutProjSampleRefIdeal.τ).loc Cert.OutProjSampleRefIdeal.main_arg7)
      ∧ r.2.mem ((c.tc : Thread Cert.OutProjSampleRefIdeal.nD Cert.OutProjSampleRefIdeal.τ).loc Cert.OutProjSampleRefIdeal.main_arg8) = m ((c.tc : Thread Cert.OutProjSampleRefIdeal.nD Cert.OutProjSampleRefIdeal.τ).loc Cert.OutProjSampleRefIdeal.main_arg8))
      ∧ r.2.sem = fun _ => 0)

def preserves_Sw_SwIdeal : Prop :=
  IdealRules.named_const.Statement Cert.SwIdeal.κ "qscale" .f32 0x3E38AA3B#32 (((8 * (Real.log 2))⁻¹ : ℝ) : EReal)
  ∧ IdealRules.named_const.Statement Cert.SwIdeal.κ "log2e" .f32 0x3FB8AA3B#32 (((Real.log 2)⁻¹ : ℝ) : EReal)

def algebraic_SwIdeal_SwRefIdeal_pre_finite [hSwIdeal : Cert.SwIdeal.Facts] [hSwRefIdeal : Cert.SwRefIdeal.Facts] [hPre_finite : Cert.Pre_finite.Facts] : Prop :=
  ∀ (m : (ℓ : Loc Cert.SwIdeal.nD Cert.SwIdeal.τ Cert.SwIdeal.sig) → Buf (Elt Ideal) ℓ) (g : Dev Cert.SwIdeal.nD → PrngReg)
    (m' : (ℓ : Loc Cert.SwRefIdeal.nD Cert.SwRefIdeal.τ Cert.SwRefIdeal.sig) → Buf (Elt Ideal) ℓ) (g' : Dev Cert.SwRefIdeal.nD → PrngReg), Pre_SwIdeal_finite m →
    (∀ c : Dev Cert.SwIdeal.nD,
      m' ((c.tc : Thread Cert.SwRefIdeal.nD Cert.SwRefIdeal.τ).loc Cert.SwRefIdeal.main_arg0) = m ((c.tc : Thread Cert.SwIdeal.nD Cert.SwIdeal.τ).loc Cert.SwIdeal.main_arg0)
      ∧ m' ((c.tc : Thread Cert.SwRefIdeal.nD Cert.SwRefIdeal.τ).loc Cert.SwRefIdeal.main_arg1) = m ((c.tc : Thread Cert.SwIdeal.nD Cert.SwIdeal.τ).loc Cert.SwIdeal.main_arg1)) →
    ∃ (v0 : (c : Dev Cert.SwIdeal.nD) → Buf (Elt Ideal) ((c.tc : Thread Cert.SwIdeal.nD Cert.SwIdeal.τ).loc Cert.SwIdeal.main_v39)),
      θ_run (Cert.SwIdeal.defs (F := Ideal)) (onTc (τ := Cert.SwIdeal.τ) (Cert.SwIdeal.main (F := Ideal))) ⟨m, fun _ => 0, g⟩ (fun r => ∀ c : Dev Cert.SwIdeal.nD,
          r.2.mem ((c.tc : Thread Cert.SwIdeal.nD Cert.SwIdeal.τ).loc Cert.SwIdeal.main_v39) = v0 c
          ∧ r.2.mem ((c.tc : Thread Cert.SwIdeal.nD Cert.SwIdeal.τ).loc Cert.SwIdeal.main_arg0) = m ((c.tc : Thread Cert.SwIdeal.nD Cert.SwIdeal.τ).loc Cert.SwIdeal.main_arg0)
          ∧ r.2.mem ((c.tc : Thread Cert.SwIdeal.nD Cert.SwIdeal.τ).loc Cert.SwIdeal.main_arg1) = m ((c.tc : Thread Cert.SwIdeal.nD Cert.SwIdeal.τ).loc Cert.SwIdeal.main_arg1))
      ∧ θ_run (Cert.SwRefIdeal.defs (F := Ideal)) (onTc (τ := Cert.SwRefIdeal.τ) (Cert.SwRefIdeal.main (F := Ideal))) ⟨m', fun _ => 0, g'⟩ (fun r => ∀ c : Dev Cert.SwRefIdeal.nD,
          r.2.mem ((c.tc : Thread Cert.SwRefIdeal.nD Cert.SwRefIdeal.τ).loc Cert.SwRefIdeal.main_v58) = v0 c
          ∧ r.2.mem ((c.tc : Thread Cert.SwRefIdeal.nD Cert.SwRefIdeal.τ).loc Cert.SwRefIdeal.main_arg0) = m' ((c.tc : Thread Cert.SwRefIdeal.nD Cert.SwRefIdeal.τ).loc Cert.SwRefIdeal.main_arg0)
          ∧ r.2.mem ((c.tc : Thread Cert.SwRefIdeal.nD Cert.SwRefIdeal.τ).loc Cert.SwRefIdeal.main_arg1) = m' ((c.tc : Thread Cert.SwRefIdeal.nD Cert.SwRefIdeal.τ).loc Cert.SwRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v21) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v41) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_OutProjSample_OutProjSampleIdeal : Prop :=
  True

def algebraic_OutProjSampleIdeal_OutProjSampleRefIdeal [hOutProjSampleIdeal : Cert.OutProjSampleIdeal.Facts] [hOutProjSampleRefIdeal : Cert.OutProjSampleRefIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg)
    (m' : (ℓ : Loc Cert.OutProjSampleRefIdeal.nD Cert.OutProjSampleRefIdeal.τ Cert.OutProjSampleRefIdeal.sig) → Buf (Elt Ideal) ℓ) (g' : Dev Cert.OutProjSampleRefIdeal.nD → PrngReg), Pre_OutProjSampleIdeal m →
    (∀ c : Dev Cert.OutProjSampleIdeal.nD,
      m' ((c.tc : Thread Cert.OutProjSampleRefIdeal.nD Cert.OutProjSampleRefIdeal.τ).loc Cert.OutProjSampleRefIdeal.main_arg0) = m ((c.tc : Thread Cert.OutProjSampleIdeal.nD Cert.OutProjSampleIdeal.τ).loc Cert.OutProjSampleIdeal.main_arg0)
      ∧ m' ((c.tc : Thread Cert.OutProjSampleRefIdeal.nD Cert.OutProjSampleRefIdeal.τ).loc Cert.OutProjSampleRefIdeal.main_arg1) = m ((c.tc : Thread Cert.OutProjSampleIdeal.nD Cert.OutProjSampleIdeal.τ).loc Cert.OutProjSampleIdeal.main_arg1)
      ∧ m' ((c.tc : Thread Cert.OutProjSampleRefIdeal.nD Cert.OutProjSampleRefIdeal.τ).loc Cert.OutProjSampleRefIdeal.main_arg2) = m ((c.tc : Thread Cert.OutProjSampleIdeal.nD Cert.OutProjSampleIdeal.τ).loc Cert.OutProjSampleIdeal.main_arg2)
      ∧ m' ((c.tc : Thread Cert.OutProjSampleRefIdeal.nD Cert.OutProjSampleRefIdeal.τ).loc Cert.OutProjSampleRefIdeal.main_arg3) = m ((c.tc : Thread Cert.OutProjSampleIdeal.nD Cert.OutProjSampleIdeal.τ).loc Cert.OutProjSampleIdeal.main_arg3)
      ∧ m' ((c.tc : Thread Cert.OutProjSampleRefIdeal.nD Cert.OutProjSampleRefIdeal.τ).loc Cert.OutProjSampleRefIdeal.main_arg4) = m ((c.tc : Thread Cert.OutProjSampleIdeal.nD Cert.OutProjSampleIdeal.τ).loc Cert.OutProjSampleIdeal.main_arg4)
      ∧ m' ((c.tc : Thread Cert.OutProjSampleRefIdeal.nD Cert.OutProjSampleRefIdeal.τ).loc Cert.OutProjSampleRefIdeal.main_arg5) = m ((c.tc : Thread Cert.OutProjSampleIdeal.nD Cert.OutProjSampleIdeal.τ).loc Cert.OutProjSampleIdeal.main_arg5)
      ∧ m' ((c.tc : Thread Cert.OutProjSampleRefIdeal.nD Cert.OutProjSampleRefIdeal.τ).loc Cert.OutProjSampleRefIdeal.main_arg6) = m ((c.tc : Thread Cert.OutProjSampleIdeal.nD Cert.OutProjSampleIdeal.τ).loc Cert.OutProjSampleIdeal.main_arg6)
      ∧ m' ((c.tc : Thread Cert.OutProjSampleRefIdeal.nD Cert.OutProjSampleRefIdeal.τ).loc Cert.OutProjSampleRefIdeal.main_arg7) = m ((c.tc : Thread Cert.OutProjSampleIdeal.nD Cert.OutProjSampleIdeal.τ).loc Cert.OutProjSampleIdeal.main_arg7)
      ∧ m' ((c.tc : Thread Cert.OutProjSampleRefIdeal.nD Cert.OutProjSampleRefIdeal.τ).loc Cert.OutProjSampleRefIdeal.main_arg8) = m ((c.tc : Thread Cert.OutProjSampleIdeal.nD Cert.OutProjSampleIdeal.τ).loc Cert.OutProjSampleIdeal.main_arg8)) →
    ∃ (v0 : (c : Dev Cert.OutProjSampleIdeal.nD) → Buf (Elt Ideal) ((c.tc : Thread Cert.OutProjSampleIdeal.nD Cert.OutProjSampleIdeal.τ).loc Cert.OutProjSampleIdeal.main_v0)),
      θ_run (Cert.OutProjSampleIdeal.defs (F := Ideal)) (onTc (τ := Cert.OutProjSampleIdeal.τ) (Cert.OutProjSampleIdeal.main (F := Ideal))) ⟨m, fun _ => 0, g⟩ (fun r => ∀ c : Dev Cert.OutProjSampleIdeal.nD,
          r.2.mem ((c.tc : Thread Cert.OutProjSampleIdeal.nD Cert.OutProjSampleIdeal.τ).loc Cert.OutProjSampleIdeal.main_v0) = v0 c
          ∧ r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
          ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
          ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
          ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
          ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
          ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5)
          ∧ r.2.mem ((c.tc : Thread Cert.OutProjSampleIdeal.nD Cert.OutProjSampleIdeal.τ).loc Cert.OutProjSampleIdeal.main_arg6) = m ((c.tc : Thread Cert.OutProjSampleIdeal.nD Cert.OutProjSampleIdeal.τ).loc Cert.OutProjSampleIdeal.main_arg6)
          ∧ r.2.mem ((c.tc : Thread Cert.OutProjSampleIdeal.nD Cert.OutProjSampleIdeal.τ).loc Cert.OutProjSampleIdeal.main_arg7) = m ((c.tc : Thread Cert.OutProjSampleIdeal.nD Cert.OutProjSampleIdeal.τ).loc Cert.OutProjSampleIdeal.main_arg7)
          ∧ r.2.mem ((c.tc : Thread Cert.OutProjSampleIdeal.nD Cert.OutProjSampleIdeal.τ).loc Cert.OutProjSampleIdeal.main_arg8) = m ((c.tc : Thread Cert.OutProjSampleIdeal.nD Cert.OutProjSampleIdeal.τ).loc Cert.OutProjSampleIdeal.main_arg8))
      ∧ θ_run (Cert.OutProjSampleRefIdeal.defs (F := Ideal)) (onTc (τ := Cert.OutProjSampleRefIdeal.τ) (Cert.OutProjSampleRefIdeal.main (F := Ideal))) ⟨m', fun _ => 0, g'⟩ (fun r => ∀ c : Dev Cert.OutProjSampleRefIdeal.nD,
          r.2.mem ((c.tc : Thread Cert.OutProjSampleRefIdeal.nD Cert.OutProjSampleRefIdeal.τ).loc Cert.OutProjSampleRefIdeal.main_v41) = v0 c
          ∧ r.2.mem ((c.tc : Thread Cert.OutProjSampleRefIdeal.nD Cert.OutProjSampleRefIdeal.τ).loc Cert.OutProjSampleRefIdeal.main_arg0) = m' ((c.tc : Thread Cert.OutProjSampleRefIdeal.nD Cert.OutProjSampleRefIdeal.τ).loc Cert.OutProjSampleRefIdeal.main_arg0)
          ∧ r.2.mem ((c.tc : Thread Cert.OutProjSampleRefIdeal.nD Cert.OutProjSampleRefIdeal.τ).loc Cert.OutProjSampleRefIdeal.main_arg1) = m' ((c.tc : Thread Cert.OutProjSampleRefIdeal.nD Cert.OutProjSampleRefIdeal.τ).loc Cert.OutProjSampleRefIdeal.main_arg1)
          ∧ r.2.mem ((c.tc : Thread Cert.OutProjSampleRefIdeal.nD Cert.OutProjSampleRefIdeal.τ).loc Cert.OutProjSampleRefIdeal.main_arg2) = m' ((c.tc : Thread Cert.OutProjSampleRefIdeal.nD Cert.OutProjSampleRefIdeal.τ).loc Cert.OutProjSampleRefIdeal.main_arg2)
          ∧ r.2.mem ((c.tc : Thread Cert.OutProjSampleRefIdeal.nD Cert.OutProjSampleRefIdeal.τ).loc Cert.OutProjSampleRefIdeal.main_arg3) = m' ((c.tc : Thread Cert.OutProjSampleRefIdeal.nD Cert.OutProjSampleRefIdeal.τ).loc Cert.OutProjSampleRefIdeal.main_arg3)
          ∧ r.2.mem ((c.tc : Thread Cert.OutProjSampleRefIdeal.nD Cert.OutProjSampleRefIdeal.τ).loc Cert.OutProjSampleRefIdeal.main_arg4) = m' ((c.tc : Thread Cert.OutProjSampleRefIdeal.nD Cert.OutProjSampleRefIdeal.τ).loc Cert.OutProjSampleRefIdeal.main_arg4)
          ∧ r.2.mem ((c.tc : Thread Cert.OutProjSampleRefIdeal.nD Cert.OutProjSampleRefIdeal.τ).loc Cert.OutProjSampleRefIdeal.main_arg5) = m' ((c.tc : Thread Cert.OutProjSampleRefIdeal.nD Cert.OutProjSampleRefIdeal.τ).loc Cert.OutProjSampleRefIdeal.main_arg5)
          ∧ r.2.mem ((c.tc : Thread Cert.OutProjSampleRefIdeal.nD Cert.OutProjSampleRefIdeal.τ).loc Cert.OutProjSampleRefIdeal.main_arg6) = m' ((c.tc : Thread Cert.OutProjSampleRefIdeal.nD Cert.OutProjSampleRefIdeal.τ).loc Cert.OutProjSampleRefIdeal.main_arg6)
          ∧ r.2.mem ((c.tc : Thread Cert.OutProjSampleRefIdeal.nD Cert.OutProjSampleRefIdeal.τ).loc Cert.OutProjSampleRefIdeal.main_arg7) = m' ((c.tc : Thread Cert.OutProjSampleRefIdeal.nD Cert.OutProjSampleRefIdeal.τ).loc Cert.OutProjSampleRefIdeal.main_arg7)
          ∧ r.2.mem ((c.tc : Thread Cert.OutProjSampleRefIdeal.nD Cert.OutProjSampleRefIdeal.τ).loc Cert.OutProjSampleRefIdeal.main_arg8) = m' ((c.tc : Thread Cert.OutProjSampleRefIdeal.nD Cert.OutProjSampleRefIdeal.τ).loc Cert.OutProjSampleRefIdeal.main_arg8))

def Claim : Prop :=
  ∃ (hSw : Cert.Sw.Facts) (hSwIdeal : Cert.SwIdeal.Facts) (hSwRefIdeal : Cert.SwRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hOutProjSample : Cert.OutProjSample.Facts) (hOutProjSampleIdeal : Cert.OutProjSampleIdeal.Facts) (hOutProjSampleRefIdeal : Cert.OutProjSampleRefIdeal.Facts) (hPre_finite : Cert.Pre_finite.Facts),
    quiescent_Sw (hSw := hSw)
    ∧ quiescent_SwIdeal (hSwIdeal := hSwIdeal)
    ∧ quiescent_SwIdeal_pre_finite (hSwIdeal := hSwIdeal) (hPre_finite := hPre_finite)
    ∧ quiescent_SwRefIdeal (hSwRefIdeal := hSwRefIdeal)
    ∧ quiescent_SwRefIdeal_pre_finite (hSwRefIdeal := hSwRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjSample (hOutProjSample := hOutProjSample)
    ∧ quiescent_OutProjSampleIdeal (hOutProjSampleIdeal := hOutProjSampleIdeal)
    ∧ quiescent_OutProjSampleRefIdeal (hOutProjSampleRefIdeal := hOutProjSampleRefIdeal)
    ∧ preserves_Sw_SwIdeal
    ∧ algebraic_SwIdeal_SwRefIdeal_pre_finite (hSwIdeal := hSwIdeal) (hSwRefIdeal := hSwRefIdeal) (hPre_finite := hPre_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_OutProjSample_OutProjSampleIdeal
    ∧ algebraic_OutProjSampleIdeal_OutProjSampleRefIdeal (hOutProjSampleIdeal := hOutProjSampleIdeal) (hOutProjSampleRefIdeal := hOutProjSampleRefIdeal)
-- ==== Pre_finite.lean ====
abbrev S8 : Shape := ⟨1, ![8]⟩
abbrev S8x8192x5376 : Shape := ⟨3, ![8, 8192, 5376]⟩
abbrev S_ : Shape := ⟨0, ![]⟩

class Facts : Prop where
  bcast_S_S8 : S_.BroadcastsInDim S8 (![] : Fin 0 → Fin S8.rank)
  bcast_S_S8x8192x5376 : S_.BroadcastsInDim S8x8192x5376 (![] : Fin 0 → Fin S8x8192x5376.rank)

variable [Facts]

def fn {F : FTy → Type} [FloatOps F] (main_arg0 : FVec F S8 .f32) (main_arg1 : FVec F S8x8192x5376 .f32) : IVec S8 1 × IVec S8x8192x5376 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S8x8192x5376 .f32 := Host.absf main_arg1
  let main_cst_0 : FVec F S_ .f32 := constant S_ .f32 0x7F800000#32
  let main_v4 : FVec F S8x8192x5376 .f32 := broadcastInDim S8x8192x5376 ![] bcast_S_S8x8192x5376 main_cst_0
  let main_v5 : IVec S8x8192x5376 1 := cmpf .olt main_v3 main_v4
  (main_v2, main_v5)
-- ==== Sw.lean ====
abbrev S8 : Shape := ⟨1, ![8]⟩
abbrev S8x8192x5376 : Shape := ⟨3, ![8, 8192, 5376]⟩
abbrev S8x8192x2048 : Shape := ⟨3, ![8, 8192, 2048]⟩
abbrev S8x8192x2112 : Shape := ⟨3, ![8, 8192, 2112]⟩
abbrev S8x8192x64 : Shape := ⟨3, ![8, 8192, 64]⟩
abbrev S8x8192x256 : Shape := ⟨3, ![8, 8192, 256]⟩
abbrev S8x8192x5056 : Shape := ⟨3, ![8, 8192, 5056]⟩
abbrev S8x8192x320 : Shape := ⟨3, ![8, 8192, 320]⟩
abbrev S1x2x4x1x1 : Shape := ⟨5, ![1, 2, 4, 1, 1]⟩
abbrev S3x2x4x128x384 : Shape := ⟨5, ![3, 2, 4, 128, 384]⟩
abbrev S_ : Shape := ⟨0, ![]⟩
abbrev S3x2x512x384 : Shape := ⟨4, ![3, 2, 512, 384]⟩
abbrev S8x8192x512 : Shape := ⟨3, ![8, 8192, 512]⟩
abbrev S1x2048x512 : Shape := ⟨3, ![1, 2048, 512]⟩
abbrev S1x8192x128 : Shape := ⟨3, ![1, 8192, 128]⟩
abbrev S1x128 : Shape := ⟨2, ![1, 128]⟩
abbrev S1x128x512 : Shape := ⟨3, ![1, 128, 512]⟩
abbrev S128x512 : Shape := ⟨2, ![128, 512]⟩
abbrev S128x128 : Shape := ⟨2, ![128, 128]⟩
abbrev S512x128 : Shape := ⟨2, ![512, 128]⟩
abbrev S1x384x128 : Shape := ⟨3, ![1, 384, 128]⟩
abbrev S384x128 : Shape := ⟨2, ![384, 128]⟩
abbrev S512x384 : Shape := ⟨2, ![512, 384]⟩
abbrev S1x1x512x384 : Shape := ⟨4, ![1, 1, 512, 384]⟩
abbrev S128x384 : Shape := ⟨2, ![128, 384]⟩
abbrev S1 : Shape := ⟨1, ![1]⟩
abbrev S128 : Shape := ⟨1, ![128]⟩
abbrev S128x1 : Shape := ⟨2, ![128, 1]⟩
abbrev S512x1 : Shape := ⟨2, ![512, 1]⟩

abbrev nBuf : Space → Nat
  | .hbm => 48
  | .vmem => 11
  | .smem => 1
  | _ => 0

abbrev bufTy : (tb : Table) → Fin (tcTables nBuf tb) → BufTy
  | .hbm, ⟨0, _⟩ => ⟨S8, .f32⟩
  | .hbm, ⟨1, _⟩ => ⟨S8x8192x5376, .f32⟩
  | .hbm, ⟨2, _⟩ => ⟨S8, .f32⟩
  | .hbm, ⟨3, _⟩ => ⟨S8x8192x2048, .f32⟩
  | .hbm, ⟨4, _⟩ => ⟨S8x8192x2112, .f32⟩
  | .hbm, ⟨5, _⟩ => ⟨S8x8192x64, .f32⟩
  | .hbm, ⟨6, _⟩ => ⟨S8x8192x64, .f32⟩
  | .hbm, ⟨7, _⟩ => ⟨S8x8192x64, .f32⟩
  | .hbm, ⟨8, _⟩ => ⟨S8x8192x64, .f32⟩
  | .hbm, ⟨9, _⟩ => ⟨S8x8192x64, .f32⟩
  | .hbm, ⟨10, _⟩ => ⟨S8x8192x64, .f32⟩
  | .hbm, ⟨11, _⟩ => ⟨S8x8192x64, .f32⟩
  | .hbm, ⟨12, _⟩ => ⟨S8x8192x64, .f32⟩
  | .hbm, ⟨13, _⟩ => ⟨S8x8192x64, .f32⟩
  | .hbm, ⟨14, _⟩ => ⟨S8x8192x64, .f32⟩
  | .hbm, ⟨15, _⟩ => ⟨S8x8192x64, .f32⟩
  | .hbm, ⟨16, _⟩ => ⟨S8x8192x64, .f32⟩
  | .hbm, ⟨17, _⟩ => ⟨S8x8192x64, .f32⟩
  | .hbm, ⟨18, _⟩ => ⟨S8x8192x64, .f32⟩
  | .hbm, ⟨19, _⟩ => ⟨S8x8192x64, .f32⟩
  | .hbm, ⟨20, _⟩ => ⟨S8x8192x256, .f32⟩
  | .hbm, ⟨21, _⟩ => ⟨S8x8192x5056, .f32⟩
  | .hbm, ⟨22, _⟩ => ⟨S8x8192x320, .f32⟩
  | .hbm, ⟨23, _⟩ => ⟨S8x8192x5376, .f32⟩
  | .hbm, ⟨24, _⟩ => ⟨S8x8192x5376, .bf16⟩
  | .hbm, ⟨25, _⟩ => ⟨S1x2x4x1x1, .f32⟩
  | .hbm, ⟨26, _⟩ => ⟨S3x2x4x128x384, .f32⟩
  | .hbm, ⟨27, _⟩ => ⟨S3x2x4x128x384, .i32⟩
  | .hbm, ⟨28, _⟩ => ⟨S3x2x4x128x384, .i32⟩
  | .hbm, ⟨29, _⟩ => ⟨S3x2x4x128x384, .i32⟩
  | .hbm, ⟨30, _⟩ => ⟨S_, .i32⟩
  | .hbm, ⟨31, _⟩ => ⟨S3x2x4x128x384, .i32⟩
  | .hbm, ⟨32, _⟩ => ⟨S3x2x4x128x384, .i32⟩
  | .hbm, ⟨33, _⟩ => ⟨S3x2x4x128x384, .i32⟩
  | .hbm, ⟨34, _⟩ => ⟨S3x2x4x128x384, .i32⟩
  | .hbm, ⟨35, _⟩ => ⟨S3x2x4x128x384, .i32⟩
  | .hbm, ⟨36, _⟩ => ⟨S3x2x4x128x384, .f32⟩
  | .hbm, ⟨37, _⟩ => ⟨S3x2x4x128x384, .f32⟩
  | .hbm, ⟨38, _⟩ => ⟨S3x2x4x128x384, .f32⟩
  | .hbm, ⟨39, _⟩ => ⟨S_, .i32⟩
  | .hbm, ⟨40, _⟩ => ⟨S3x2x4x128x384, .i32⟩
  | .hbm, ⟨41, _⟩ => ⟨S3x2x4x128x384, .i1⟩
  | .hbm, ⟨42, _⟩ => ⟨S_, .f32⟩
  | .hbm, ⟨43, _⟩ => ⟨S_, .f32⟩
  | .hbm, ⟨44, _⟩ => ⟨S3x2x4x128x384, .f32⟩
  | .hbm, ⟨45, _⟩ => ⟨S3x2x4x128x384, .f32⟩
  | .hbm, ⟨46, _⟩ => ⟨S3x2x512x384, .f32⟩
  | .hbm, ⟨47, _⟩ => ⟨S8x8192x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S3x2x512x384, .f32⟩
  | .local _ .vmem, ⟨9, _⟩ => ⟨S1x2048x512, .bf16⟩
  | .local _ .vmem, ⟨10, _⟩ => ⟨S1x2048x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_c : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_c_0 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_7 : BitVec 32 := 128#32
  let v15 : BitVec 32 := Scalar.muli arg9 c128_i32_7
  v15
def k0_mult2 (i : grid0.Coords) (k0_t1 : Fin k0_t1_loop.trips) : BitVec 32 :=
  let c7808_i32 : BitVec 32 := 7808#32
  let c0_i32_3 : BitVec 32 := 0#32
  let arg1 : BitVec 32 := BitVec.ofNat 32 (i 1).val
  let c16_i32_1 : BitVec 32 := 16#32
  let v5 : BitVec 32 := Scalar.muli arg1 c16_i32_1
  let c0_i32 : BitVec 32 := 0#32
  let c1_i32 : BitVec 32 := 1#32
  let arg9 : BitVec 32 := Scf.iv c0_i32 c1_i32 k0_t1
  let v6 : BitVec 32 := Scalar.addi v5 arg9
  let c1_i32_2 : BitVec 32 := 1#32
  let v7 : BitVec 32 := Scalar.subi v6 c1_i32_2
  let c128_i32 : BitVec 32 := 128#32
  let v8 : BitVec 32 := Scalar.muli v7 c128_i32
  let v9 : BitVec 32 := Scalar.maxsi c0_i32_3 v8
  let v10 : BitVec 32 := Scalar.minsi c7808_i32 v9
  v10
def k0_off1 (k0_t1 : Fin k0_t1_loop.trips) : Fin 3 → Nat :=
  let c0 : Index := 0#32
  let c0_i32 : BitVec 32 := 0#32
  let c1_i32 : BitVec 32 := 1#32
  let arg9 : BitVec 32 := Scf.iv c0_i32 c1_i32 k0_t1
  let c128_i32_7 : BitVec 32 := 128#32
  let v15 : BitVec 32 := Scalar.muli arg9 c128_i32_7
  let v16 : BitVec 32 := v15
  let v18 : Index := Scalar.indexCast v16
  let c0_8 : Index := 0#32
  ![0, v18.toNat, 0]
def k0_off2 (i : grid0.Coords) (k0_t1 : Fin k0_t1_loop.trips) : Fin 3 → Nat :=
  let c0_9 : Index := 0#32
  let c7808_i32 : BitVec 32 := 7808#32
  let c0_i32_3 : BitVec 32 := 0#32
  let arg1 : BitVec 32 := BitVec.ofNat 32 (i 1).val
  let c16_i32_1 : BitVec 32 := 16#32
  let v5 : BitVec 32 := Scalar.muli arg1 c16_i32_1
  let c0_i32 : BitVec 32 := 0#32
  let c1_i32 : BitVec 32 := 1#32
  let arg9 : BitVec 32 := Scf.iv c0_i32 c1_i32 k0_t1
  let v6 : BitVec 32 := Scalar.addi v5 arg9
  let c1_i32_2 : BitVec 32 := 1#32
  let v7 : BitVec 32 := Scalar.subi v6 c1_i32_2
  let c128_i32 : BitVec 32 := 128#32
  let v8 : BitVec 32 := Scalar.muli v7 c128_i32
  let v9 : BitVec 32 := Scalar.maxsi c0_i32_3 v8
  let v10 : BitVec 32 := Scalar.minsi c7808_i32 v9
  let v17 : BitVec 32 := v10
  let v26 : Index := Scalar.indexCast v17
  let c0_10 : Index := 0#32
  ![0, v26.toNat, 0]
def k0_off3 (i : grid0.Coords) (k0_t1 : Fin k0_t1_loop.trips) : Fin 4 → Nat :=
  let arg1 : BitVec 32 := BitVec.ofNat 32 (i 1).val
  let c16_i32_1 : BitVec 32 := 16#32
  let v5 : BitVec 32 := Scalar.muli arg1 c16_i32_1
  let c0_i32 : BitVec 32 := 0#32
  let c1_i32 : BitVec 32 := 1#32
  let arg9 : BitVec 32 := Scf.iv c0_i32 c1_i32 k0_t1
  let v6 : BitVec 32 := Scalar.addi v5 arg9
  let c0_i32_4 : BitVec 32 := 0#32
  let v11 : BitVec 1 := Scalar.cmpi .eq v6 c0_i32_4
  let c0_i32_6 : BitVec 32 := 0#32
  let c63_i32 : BitVec 32 := 63#32
  let v12 : BitVec 1 := Scalar.cmpi .eq v6 c63_i32
  let c2_i32 : BitVec 32 := 2#32
  let c1_i32_5 : BitVec 32 := 1#32
  let v13 : BitVec 32 := Scalar.select v12 c2_i32 c1_i32_5
  let v14 : BitVec 32 := Scalar.select v11 c0_i32_6 v13
  let v39 : Index := Scalar.indexCast v14
  let c0_16 : Index := 0#32
  let c0_17 : Index := 0#32
  let c0_18 : Index := 0#32
  ![v39.toNat, 0, 0, 0]
def k0_off4 (i : grid0.Coords) (k0_t1 : Fin k0_t1_loop.trips) : Fin 4 → Nat :=
  let arg1 : BitVec 32 := BitVec.ofNat 32 (i 1).val
  let c16_i32_1 : BitVec 32 := 16#32
  let v5 : BitVec 32 := Scalar.muli arg1 c16_i32_1
  let c0_i32 : BitVec 32 := 0#32
  let c1_i32 : BitVec 32 := 1#32
  let arg9 : BitVec 32 := Scf.iv c0_i32 c1_i32 k0_t1
  let v6 : BitVec 32 := Scalar.addi v5 arg9
  let c0_i32_4 : BitVec 32 := 0#32
  let v11 : BitVec 1 := Scalar.cmpi .eq v6 c0_i32_4
  let c0_i32_6 : BitVec 32 := 0#32
  let c63_i32 : BitVec 32 := 63#32
  let v12 : BitVec 1 := Scalar.cmpi .eq v6 c63_i32
  let c2_i32 : BitVec 32 := 2#32
  let c1_i32_5 : BitVec 32 := 1#32
  let v13 : BitVec 32 := Scalar.select v12 c2_i32 c1_i32_5
  let v14 : BitVec 32 := Scalar.select v11 c0_i32_6 v13
  let v115 : Index := Scalar.indexCast v14
  let c1_34 : Index := 1#32
  let c0_35 : Index := 0#32
  let c0_36 : Index := 0#32
  ![v115.toNat, 1, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  ![arg0.toNat, c0_i32.toNat, c40_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c41_i32 : BitVec 32 := 41#32
  let c0_i32_0 : BitVec 32 := 0#32
  ![arg0.toNat, c0_i32.toNat, c41_i32.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x2x512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwIdeal.lean ====
variable {F : FTy → Type} [FloatOps F] [Named F]
def κ : String → Option EReal := fun
  | "log2e" => some (((Real.log 2)⁻¹ : ℝ) : EReal)
  | "qscale" => some (((8 * (Real.log 2))⁻¹ : ℝ) : EReal)
  | _ => none
-- ==== SwRefIdeal.lean ====
abbrev S8 : Shape := ⟨1, ![8]⟩
abbrev S8x8192x5376 : Shape := ⟨3, ![8, 8192, 5376]⟩
abbrev S8x8192x512 : Shape := ⟨3, ![8, 8192, 512]⟩
abbrev S8x8192x128 : Shape := ⟨3, ![8, 8192, 128]⟩
abbrev S8x8192x1024 : Shape := ⟨3, ![8, 8192, 1024]⟩
abbrev S8x8192x2x4x64 : Shape := ⟨5, ![8, 8192, 2, 4, 64]⟩
abbrev S8x8192x2x64 : Shape := ⟨4, ![8, 8192, 2, 64]⟩
abbrev S8192x8192 : Shape := ⟨2, ![8192, 8192]⟩
abbrev S2x4 : Shape := ⟨2, ![2, 4]⟩
abbrev S8x2x8192x8192x4 : Shape := ⟨5, ![8, 2, 8192, 8192, 4]⟩
abbrev S8x2x4x8192x8192 : Shape := ⟨5, ![8, 2, 4, 8192, 8192]⟩
abbrev S_ : Shape := ⟨0, ![]⟩
abbrev S2x4x1x1 : Shape := ⟨4, ![2, 4, 1, 1]⟩
abbrev S1x1x8192x8192 : Shape := ⟨4, ![1, 1, 8192, 8192]⟩
abbrev S2x4x8192x8192 : Shape := ⟨4, ![2, 4, 8192, 8192]⟩
abbrev S1x2x4x8192x8192 : Shape := ⟨5, ![1, 2, 4, 8192, 8192]⟩
abbrev S1x2x4x1x1 : Shape := ⟨5, ![1, 2, 4, 1, 1]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩
abbrev S8x8192x4x2x64 : Shape := ⟨5, ![8, 8192, 4, 2, 64]⟩

abbrev nBuf : Space → Nat
  | .hbm => 78
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x8192x5376, .f32⟩
  | .hbm, ⟨2, _⟩ => ⟨S8, .f32⟩
  | .hbm, ⟨3, _⟩ => ⟨S8x8192x512, .f32⟩
  | .hbm, ⟨4, _⟩ => ⟨S8x8192x512, .f32⟩
  | .hbm, ⟨5, _⟩ => ⟨S8x8192x512, .f32⟩
  | .hbm, ⟨6, _⟩ => ⟨S8x8192x512, .f32⟩
  | .hbm, ⟨7, _⟩ => ⟨S8x8192x512, .f32⟩
  | .hbm, ⟨8, _⟩ => ⟨S8x8192x128, .f32⟩
  | .hbm, ⟨9, _⟩ => ⟨S8x8192x128, .f32⟩
  | .hbm, ⟨10, _⟩ => ⟨S8x8192x512, .f32⟩
  | .hbm, ⟨11, _⟩ => ⟨S8x8192x1024, .f32⟩
  | .hbm, ⟨12, _⟩ => ⟨S8x8192x1024, .f32⟩
  | .hbm, ⟨13, _⟩ => ⟨S8x8192x2x4x64, .f32⟩
  | .hbm, ⟨14, _⟩ => ⟨S8x8192x2x64, .f32⟩
  | .hbm, ⟨15, _⟩ => ⟨S8x8192x2x64, .f32⟩
  | .hbm, ⟨16, _⟩ => ⟨S8192x8192, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S2x4, .f32⟩
  | .hbm, ⟨21, _⟩ => ⟨S8x2x8192x8192x4, .f32⟩
  | .hbm, ⟨22, _⟩ => ⟨S8x2x4x8192x8192, .f32⟩
  | .hbm, ⟨23, _⟩ => ⟨S_, .f32⟩
  | .hbm, ⟨24, _⟩ => ⟨S8x2x4x8192x8192, .f32⟩
  | .hbm, ⟨25, _⟩ => ⟨S8x2x4x8192x8192, .f32⟩
  | .hbm, ⟨26, _⟩ => ⟨S2x4x1x1, .f32⟩
  | .hbm, ⟨27, _⟩ => ⟨S8192x8192, .f32⟩
  | .hbm, ⟨28, _⟩ => ⟨S1x1x8192x8192, .f32⟩
  | .hbm, ⟨29, _⟩ => ⟨S2x4x8192x8192, .f32⟩
  | .hbm, ⟨30, _⟩ => ⟨S2x4x8192x8192, .f32⟩
  | .hbm, ⟨31, _⟩ => ⟨S2x4x8192x8192, .f32⟩
  | .hbm, ⟨32, _⟩ => ⟨S1x2x4x8192x8192, .f32⟩
  | .hbm, ⟨33, _⟩ => ⟨S8x2x4x8192x8192, .f32⟩
  | .hbm, ⟨34, _⟩ => ⟨S8x2x4x8192x8192, .f32⟩
  | .hbm, ⟨35, _⟩ => ⟨S_, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S8x2x4x8192x8192, .i1⟩
  | .hbm, ⟨41, _⟩ => ⟨S8x2x4x8192x8192, .f32⟩
  | .hbm, ⟨42, _⟩ => ⟨S8x2x4x8192x8192, .f32⟩
  | .hbm, ⟨43, _⟩ => ⟨S1x2x4x1x1, .f32⟩
  | .hbm, ⟨44, _⟩ => ⟨S_, .f32⟩
  | .hbm, ⟨45, _⟩ => ⟨S8x2x4x8192, .f32⟩
  | .hbm, ⟨46, _⟩ => ⟨S8x2x4x8192x1, .f32⟩
  | .hbm, ⟨47, _⟩ => ⟨S8x2x4x8192x1, .f32⟩
  | .hbm, ⟨48, _⟩ => ⟨S8x2x4x8192x1, .f32⟩
  | .hbm, ⟨49, _⟩ => ⟨S8x2x4x8192x8192, .f32⟩
  | .hbm, ⟨50, _⟩ => ⟨S8x2x4x8192x8192, .f32⟩
  | .hbm, ⟨51, _⟩ => ⟨S8x2x4x8192x8192, .f32⟩
  | .hbm, ⟨52, _⟩ => ⟨S_, .f32⟩
  | .hbm, ⟨53, _⟩ => ⟨S8x2x4x8192, .f32⟩
  | .hbm, ⟨54, _⟩ => ⟨S8x2x4x8192x1, .f32⟩
  | .hbm, ⟨55, _⟩ => ⟨S8x2x4x8192x1, .f32⟩
  | .hbm, ⟨56, _⟩ => ⟨S8x2x4x8192x1, .f32⟩
  | .hbm, ⟨57, _⟩ => ⟨S8x2x4x8192x1, .f32⟩
  | .hbm, ⟨58, _⟩ => ⟨S8x2x4x8192x1, .f32⟩
  | .hbm, ⟨59, _⟩ => ⟨S8x2x4x8192x8192, .f32⟩
  | .hbm, ⟨60, _⟩ => ⟨S8x2x4x8192x8192, .f32⟩
  | .hbm, ⟨61, _⟩ => ⟨S8x2x64x4x8192, .f32⟩
  | .hbm, ⟨62, _⟩ => ⟨S8x8192x2x4x64, .f32⟩
  | .hbm, ⟨63, _⟩ => ⟨S8x8192x512, .f32⟩
  | .hbm, ⟨64, _⟩ => ⟨S8x8192x512, .f32⟩
  | .hbm, ⟨65, _⟩ => ⟨S8x8192x512, .f32⟩
  | .hbm, ⟨66, _⟩ => ⟨S_, .f32⟩
  | .hbm, ⟨67, _⟩ => ⟨S8x8192x512, .f32⟩
  | .hbm, ⟨68, _⟩ => ⟨S8x8192x512, .f32⟩
  | .hbm, ⟨69, _⟩ => ⟨S_, .f32⟩
  | .hbm, ⟨70, _⟩ => ⟨S8x8192x512, .f32⟩
  | .hbm, ⟨71, _⟩ => ⟨S8x8192x512, .f32⟩
  | .hbm, ⟨72, _⟩ => ⟨S8x8192x512, .f32⟩
  | .hbm, ⟨73, _⟩ => ⟨S8x8192x512, .f32⟩
  | .hbm, ⟨74, _⟩ => ⟨S8x8192x2x4x64, .f32⟩
  | .hbm, ⟨75, _⟩ => ⟨S8x8192x4x2x64, .f32⟩
  | .hbm, ⟨76, _⟩ => ⟨S8x8192x512, .f32⟩
  | .hbm, ⟨77, _⟩ => ⟨S8x8192x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_c : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== InProj.lean ====
abbrev S8x8192x1024 : Shape := ⟨3, ![8, 8192, 1024]⟩
abbrev S8x1x1024 : Shape := ⟨3, ![8, 1, 1024]⟩
abbrev S1x1024 : Shape := ⟨2, ![1, 1024]⟩
abbrev S1024x5376 : Shape := ⟨2, ![1024, 5376]⟩
abbrev S8x8192x5376 : Shape := ⟨3, ![8, 8192, 5376]⟩
abbrev S1x512x1024 : Shape := ⟨3, ![1, 512, 1024]⟩
abbrev S1x1x1024 : Shape := ⟨3, ![1, 1, 1024]⟩
abbrev S1x512x5376 : Shape := ⟨3, ![1, 512, 5376]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x512x768 : Shape := ⟨3, ![1, 512, 768]⟩

abbrev nBuf : Space → Nat
  | .hbm => 6
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x5376, .bf16⟩
  | .hbm, ⟨5, _⟩ => ⟨S8x8192x5376, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5376, .bf16⟩
  | .local _ .vmem, ⟨8, _⟩ => ⟨S1x512x5376, .bf16⟩
  | .local _ .vmem, ⟨9, _⟩ => ⟨S1x512x5376, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x5376 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S8x8192x1024 : Shape := ⟨3, ![8, 8192, 1024]⟩
abbrev S8x1x1024 : Shape := ⟨3, ![8, 1, 1024]⟩
abbrev S1x1024 : Shape := ⟨2, ![1, 1024]⟩
abbrev S1024x5376 : Shape := ⟨2, ![1024, 5376]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5376 : Shape := ⟨3, ![8, 8192, 5376]⟩

abbrev nBuf : Space → Nat
  | .hbm => 31
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1024x5376, .bf16⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S1024x5376, .f32⟩
  | .hbm, ⟨29, _⟩ => ⟨S8x8192x5376, .f32⟩
  | .hbm, ⟨30, _⟩ => ⟨S8x8192x5376, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OutProj.lean ====
abbrev S8x8192x1024 : Shape := ⟨3, ![8, 8192, 1024]⟩
abbrev S8x8192x512 : Shape := ⟨3, ![8, 8192, 512]⟩
abbrev S8x8192x5376 : Shape := ⟨3, ![8, 8192, 5376]⟩
abbrev S8x1x1024 : Shape := ⟨3, ![8, 1, 1024]⟩
abbrev S1x1024 : Shape := ⟨2, ![1, 1024]⟩
abbrev S512x1024 : Shape := ⟨2, ![512, 1024]⟩
abbrev S1024x1024 : Shape := ⟨2, ![1024, 1024]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x8192x5376, .bf16⟩
  | .hbm, ⟨4, _⟩ => ⟨S8x1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024x1024, .f32⟩
  | .local _ .vmem, ⟨17, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjIdeal.lean ====
abbrev S8x8192x1024 : Shape := ⟨3, ![8, 8192, 1024]⟩
abbrev S8x8192x512 : Shape := ⟨3, ![8, 8192, 512]⟩
abbrev S8x8192x5376 : Shape := ⟨3, ![8, 8192, 5376]⟩
abbrev S8x1x1024 : Shape := ⟨3, ![8, 1, 1024]⟩
abbrev S1x1024 : Shape := ⟨2, ![1, 1024]⟩
abbrev S512x1024 : Shape := ⟨2, ![512, 1024]⟩
abbrev S1024x1024 : Shape := ⟨2, ![1024, 1024]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x8192x5376, .bf16⟩
  | .hbm, ⟨4, _⟩ => ⟨S8x1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024x1024, .f32⟩
  | .local _ .vmem, ⟨17, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjRefIdeal.lean ====
abbrev S8x8192x1024 : Shape := ⟨3, ![8, 8192, 1024]⟩
abbrev S8x8192x512 : Shape := ⟨3, ![8, 8192, 512]⟩
abbrev S8x8192x5376 : Shape := ⟨3, ![8, 8192, 5376]⟩
abbrev S8x1x1024 : Shape := ⟨3, ![8, 1, 1024]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S8x8192x5376, .bf16⟩
  | .hbm, ⟨4, _⟩ => ⟨S8x1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S8x8192x512, .f32⟩
  | .hbm, ⟨10, _⟩ => ⟨S8x8192x512, .f32⟩
  | .hbm, ⟨11, _⟩ => ⟨S8x8192x5376, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S8x8192x1024, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | .hbm, ⟨19, _⟩ => ⟨S_, .f32⟩
  | .hbm, ⟨20, _⟩ => ⟨S8x8192x1024, .f32⟩
  | .hbm, ⟨21, _⟩ => ⟨S8x8192x1024, .f32⟩
  | .hbm, ⟨22, _⟩ => ⟨S_, .f32⟩
  | .hbm, ⟨23, _⟩ => ⟨S8x8192x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S_, .f32⟩
  | .hbm, ⟨30, _⟩ => ⟨S8x8192x1024, .f32⟩
  | .hbm, ⟨31, _⟩ => ⟨S8x8192x1024, .f32⟩
  | .hbm, ⟨32, _⟩ => ⟨S_, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S8x8192x1, .f32⟩
  | .hbm, ⟨50, _⟩ => ⟨S8x8192x1024, .f32⟩
  | .hbm, ⟨51, _⟩ => ⟨S8x8192x1024, .f32⟩
  | .hbm, ⟨52, _⟩ => ⟨S1x1x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== OutProjSample.lean ====
abbrev S2x8192x1024 : Shape := ⟨3, ![2, 8192, 1024]⟩
abbrev S2x8192x512 : Shape := ⟨3, ![2, 8192, 512]⟩
abbrev S2x8192x5376 : Shape := ⟨3, ![2, 8192, 5376]⟩
abbrev S2x1x1024 : Shape := ⟨3, ![2, 1, 1024]⟩
abbrev S1x1024 : Shape := ⟨2, ![1, 1024]⟩
abbrev S512x1024 : Shape := ⟨2, ![512, 1024]⟩
abbrev S1024x1024 : Shape := ⟨2, ![1024, 1024]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x8192x5376, .bf16⟩
  | .hbm, ⟨4, _⟩ => ⟨S2x1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024x1024, .f32⟩
  | .local _ .vmem, ⟨17, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutProjSampleRefIdeal.lean ====
abbrev S2x8192x1024 : Shape := ⟨3, ![2, 8192, 1024]⟩
abbrev S2x8192x512 : Shape := ⟨3, ![2, 8192, 512]⟩
abbrev S2x8192x5376 : Shape := ⟨3, ![2, 8192, 5376]⟩
abbrev S2x1x1024 : Shape := ⟨3, ![2, 1, 1024]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x8192x5376, .bf16⟩
  | .hbm, ⟨4, _⟩ => ⟨S2x1x1024, .f32⟩
  | .hbm, ⟨5, _⟩ => ⟨S1x1024, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S2x8192x512, .f32⟩
  | .hbm, ⟨10, _⟩ => ⟨S2x8192x512, .f32⟩
  | .hbm, ⟨11, _⟩ => ⟨S2x8192x5376, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S_, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.InProjTerm.lean ====
module

public import proofs.«01_k».proof.Proof.Gen.InProjRefIdeal.Run

@[expose] public section

set_option maxRecDepth 16384

noncomputable section

open Idealize.ShloMosaic Idealize.ShloMosaic.TcCoe Idealize.SL.Sem

namespace Cert.InProjRefIdeal.Term

open Cert.InProjRefIdeal Cert.InProjRefIdeal.Gen

variable {F : FTy → Type} [FloatOps F]

/-- The reciprocal root of each row's mean square. -/
def scale (x : FVec F S8x8192x1024 .f32) : FVec F S8x8192x1 .f32 :=
  Host.rsqrt (addf
    (Host.divf
      (broadcastInDim S8x8192x1 ![0, 1] bcast_S8x8192_S8x8192x1_0_1
        (Host.reduceAdd (mulf x x) (constant S_ .f32 0x00000000#32) reducesTo_S8x8192x1024_S8x8192_d2 h_S_))
      (broadcastInDim S8x8192x1 ![] bcast_S_S8x8192x1 (constant S_ .f32 0x44800000#32)))
    (broadcastInDim S8x8192x1 ![] bcast_S_S8x8192x1 (constant S_ .f32 0x358637BD#32)))

/-- The input projection's reference as one function of its five arguments: the normalised and modulated rows
    contracted with the weights. -/
def whole (x : FVec F S8x8192x1024 .f32) (sc sh : FVec F S8x1x1024 .f32) (g : FVec F S1x1024 .f32)
    (w : FVec F S1024x5376 .bf16) : FVec F S8x8192x5376 .bf16 :=
  truncf .bf16
    (Host.dotGeneral dot_S8x8192x1024_S1024x5376_S8x8192x5376_2_0_01_1_n_n none
      (addf
        (mulf
          (mulf (mulf x (broadcastInDim S8x8192x1024 ![0, 1, 2] bcast_S8x8192x1_S8x8192x1024_0_1_2 (scale x)))
            (broadcastInDim S8x8192x1024 ![0, 1, 2] bcast_S1x1x1024_S8x8192x1024_0_1_2
              (broadcastInDim S1x1x1024 ![1, 2] bcast_S1x1024_S1x1x1024_1_2 g)))
          (broadcastInDim S8x8192x1024 ![0, 1, 2] bcast_S8x1x1024_S8x8192x1024_0_1_2
            (addf (broadcastInDim S8x1x1024 ![] bcast_S_S8x1x1024 (constant S_ .f32 0x3F800000#32)) sc)))
        (broadcastInDim S8x8192x1024 ![0, 1, 2] bcast_S8x1x1024_S8x8192x1024_0_1_2 sh))
      (extf .f32 w bitsLt_bf16_f32))
    bitsLt_bf16_f32

end Cert.InProjRefIdeal.Term

end
-- ==== Proof.InProj.lean ====
module

public import proofs.«01_k».proof.Proof.Gen.InProjIdeal.Value
public import proofs.«01_k».proof.Proof.InProjTerm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Whole

open Cert.InProjIdeal Cert.InProjIdeal.Gen

variable (m : (ℓ : Loc nD τ sig) → Buf (Elt Ideal) ℓ)

/-- The block each window stages at a grid point, from the point's number: 16 row blocks to a batch. -/
theorem blockAt : ∀ t : Fin cfg0.N, win0_0.index t = ![t.val / 16, t.val % 16, 0]
    ∧ win0_1.index t = ![t.val / 16, 0, 0]
    ∧ win0_2.index t = ![t.val / 16, 0, 0]
    ∧ win0_3.index t = ![0, 0]
    ∧ win0_4.index t = ![0, 0]
    ∧ win0_5.index t = ![t.val / 16, t.val % 16, 0] :=
  (by decide +kernel : ∀ t : Fin grid0.N, _)

set_option maxHeartbeats 1600000 in
/-- What a grid point stores at a place of its block is the reference's value at the place of the array. -/
theorem stored (c : Dev nD) (t : Fin cfg0.N) (y) :
    out0_5 (iblk m c 0 t) (iblk m c 1 t) (iblk m c 2 t) (iblk m c 3 t) (iblk m c 4 t) y
      = InProjRefIdeal.Term.whole (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb y) := by
  canon_tiles x h
  all_goals (open_payloads; pointwise [InProjRefIdeal.Term.whole, InProjRefIdeal.Term.scale]; blk_point [iblk, V, blockAt t])

/-- The array the kernel leaves is the reference's function of the arguments. -/
theorem result (c : Dev nD) : (dats m 0 c).arrAt 5 (cfgs 0).N
    = InProjRefIdeal.Term.whole (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp; rw [after0_5]
  exact stored m c t y

end Cert.InProjIdeal.Whole

end
-- ==== Proof.OutProjTerm.lean ====
module

public import proofs.«01_k».proof.Proof.Gen.OutProjRefIdeal.Run

@[expose] public section

set_option maxRecDepth 16384

noncomputable section

open Idealize.ShloMosaic Idealize.ShloMosaic.TcCoe Idealize.SL.Sem

namespace Cert.OutProjRefIdeal.Term

open Cert.OutProjRefIdeal Cert.OutProjRefIdeal.Gen

variable {F : FTy → Type} [FloatOps F]

/-- One branch of the mix: the attention output through its weights, under the sigmoid of its gate. -/
def branch (u : FVec F S8x8192x1024 .f32) (o : FVec F S8x8192x512 .bf16) (w : FVec F S512x1024 .bf16) :
    FVec F S8x8192x1024 .f32 :=
  mulf
    (Host.divf (broadcastInDim S8x8192x1024 ![] bcast_S_S8x8192x1024 (constant S_ .f32 0x3F800000#32))
      (addf (broadcastInDim S8x8192x1024 ![] bcast_S_S8x8192x1024 (constant S_ .f32 0x3F800000#32))
        (Host.exp (Host.negf u))))
    (Host.dotGeneral dot_S8x8192x512_S512x1024_S8x8192x1024_2_0_01_1_n_n none (extf .f32 o bitsLt_bf16_f32)
      (extf .f32 w bitsLt_bf16_f32))

/-- The two branches' sum through the output weights. -/
def mixed (oa ob : FVec F S8x8192x512 .bf16) (p : FVec F S8x8192x5376 .bf16) (wa wb : FVec F S512x1024 .bf16)
    (wo : FVec F S1024x1024 .bf16) : FVec F S8x8192x1024 .f32 :=
  Host.dotGeneral dot_S8x8192x1024_S1024x1024_S8x8192x1024_2_0_01_1_n_n none
    (addf
      (branch (extractStridedSlice S8x8192x1024 ![0, 0, 0] (extf .f32 p bitsLt_bf16_f32)
        slices_S8x8192x5376_S8x8192x1024_0_0_0) oa wa)
      (branch (extractStridedSlice S8x8192x1024 ![0, 0, 1024] (extf .f32 p bitsLt_bf16_f32)
        slices_S8x8192x5376_S8x8192x1024_0_0_1024) ob wb))
    (extf .f32 wo bitsLt_bf16_f32)

/-- The reciprocal root of each row's mean square. -/
def scale (y : FVec F S8x8192x1024 .f32) : FVec F S8x8192x1 .f32 :=
  Host.rsqrt (addf
    (Host.divf
      (broadcastInDim S8x8192x1 ![0, 1] bcast_S8x8192_S8x8192x1_0_1
        (Host.reduceAdd (mulf y y) (constant S_ .f32 0x00000000#32) reducesTo_S8x8192x1024_S8x8192_d2 h_S_))
      (broadcastInDim S8x8192x1 ![] bcast_S_S8x8192x1 (constant S_ .f32 0x44800000#32)))
    (broadcastInDim S8x8192x1 ![] bcast_S_S8x8192x1 (constant S_ .f32 0x358637BD#32)))

/-- The residual step over the mixed rows. -/
def residual (x : FVec F S8x8192x1024 .f32) (y : FVec F S8x8192x1024 .f32) (gate : FVec F S8x1x1024 .f32)
    (g : FVec F S1x1024 .f32) : FVec F S8x8192x1024 .f32 :=
  addf x
    (mulf (broadcastInDim S8x8192x1024 ![0, 1, 2] bcast_S8x1x1024_S8x8192x1024_0_1_2 gate)
      (mulf (mulf y (broadcastInDim S8x8192x1024 ![0, 1, 2] bcast_S8x8192x1_S8x8192x1024_0_1_2 (scale y)))
        (broadcastInDim S8x8192x1024 ![0, 1, 2] bcast_S1x1x1024_S8x8192x1024_0_1_2
          (broadcastInDim S1x1x1024 ![1, 2] bcast_S1x1024_S1x1x1024_1_2 g))))

/-- The output projection's reference as one function of its nine arguments. -/
def whole (x : FVec F S8x8192x1024 .f32) (oa ob : FVec F S8x8192x512 .bf16) (p : FVec F S8x8192x5376 .bf16)
    (gate : FVec F S8x1x1024 .f32) (g : FVec F S1x1024 .f32) (wa wb : FVec F S512x1024 .bf16)
    (wo : FVec F S1024x1024 .bf16) : FVec F S8x8192x1024 .f32 :=
  residual x (mixed oa ob p wa wb wo) gate g

/-- Equal arguments give the same result. -/
theorem whole_congr {x x' : FVec F S8x8192x1024 .f32} {oa oa' ob ob' : FVec F S8x8192x512 .bf16}
    {p p' : FVec F S8x8192x5376 .bf16} {gate gate' : FVec F S8x1x1024 .f32} {g g' : FVec F S1x1024 .f32}
    {wa wa' wb wb' : FVec F S512x1024 .bf16} {wo wo' : FVec F S1024x1024 .bf16}
    (h0 : x = x') (h1 : oa = oa') (h2 : ob = ob') (h3 : p = p') (h4 : gate = gate') (h5 : g = g') (h6 : wa = wa')
    (h7 : wb = wb') (h8 : wo = wo') : whole x oa ob p gate g wa wb wo = whole x' oa' ob' p' gate' g' wa' wb' wo' := by
  subst h0 h1 h2 h3 h4 h5 h6 h7 h8; rfl

/-- What the reference's run leaves is `whole` of its arguments. -/
theorem run_eq (m : (ℓ : Loc nD τ sig) → Buf (Elt F) ℓ) (c : Dev nD) :
    Value.res_main_v41 m c = whole (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := rfl

end Cert.OutProjRefIdeal.Term

end
-- ==== Proof.OutProj.lean ====
module

public import proofs.«01_k».proof.Proof.Gen.OutProjIdeal.Value
public import proofs.«01_k».proof.Proof.OutProjTerm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Whole

open Cert.OutProjIdeal Cert.OutProjIdeal.Gen

variable (m : (ℓ : Loc nD τ sig) → Buf (Elt Ideal) ℓ)

/-- The block each window stages at a grid point, from the point's number: 8 row blocks to a batch. -/
theorem blockAt : ∀ t : Fin cfg0.N, win0_0.index t = ![t.val / 8, t.val % 8, 0]
    ∧ win0_1.index t = ![t.val / 8, t.val % 8, 0]
    ∧ win0_2.index t = ![t.val / 8, t.val % 8, 0]
    ∧ win0_5.index t = ![t.val / 8, 0, 0]
    ∧ win0_6.index t = ![0, 0]
    ∧ win0_7.index t = ![0, 0]
    ∧ win0_8.index t = ![0, 0]
    ∧ win0_9.index t = ![0, 0]
    ∧ win0_10.index t = ![t.val / 8, t.val % 8, 0] :=
  (by decide +kernel : ∀ t : Fin grid0.N, _)

/-- The two gate windows stage neighbouring column blocks of the same rows. -/
theorem gateBlock : ∀ t : Fin cfg0.N, win0_3.index t = ![t.val / 8, t.val % 8, 0]
    ∧ win0_4.index t = ![t.val / 8, t.val % 8, 1] ∧ t.val < 64 :=
  (by decide +kernel : ∀ t : Fin grid0.N, _)

/-- The first gate's block is the projection's first column block of the point's rows. -/
theorem gateA (c : Dev nD) (t : Fin cfg0.N) :
    (X0_3 m c t : FVec Ideal S1x1024x1024 .bf16) = fun y => (m ((c : Thread nD τ).loc main_arg3) : FVec Ideal S8x8192x5376 .bf16)
      (ix3 ⟨t.val / 8, by have := (gateBlock t).2.2; omega⟩
        ⟨t.val % 8 * 1024 + (y 1).val, by have : (y 1).val < 1024 := (y 1).isLt; omega⟩
        ⟨(y 2).val, by have : (y 2).val < 1024 := (y 2).isLt; omega⟩) := by
  funext y
  unfold X0_3 Pipeline.Window.fill
  rw [dif_pos (moved0_3 t _)]
  blk_simp [iblk, V]
  blk_ext [gateBlock t]

/-- The second gate's block is the projection's second column block of the point's rows. -/
theorem gateB (c : Dev nD) (t : Fin cfg0.N) :
    (X0_4 m c t : FVec Ideal S1x1024x1024 .bf16) = fun y => (m ((c : Thread nD τ).loc main_arg3) : FVec Ideal S8x8192x5376 .bf16)
      (ix3 ⟨t.val / 8, by have := (gateBlock t).2.2; omega⟩
        ⟨t.val % 8 * 1024 + (y 1).val, by have : (y 1).val < 1024 := (y 1).isLt; omega⟩
        ⟨1024 + (y 2).val, by have : (y 2).val < 1024 := (y 2).isLt; omega⟩) := by
  funext y
  unfold X0_4 Pipeline.Window.fill
  rw [dif_pos (moved0_4 t _)]
  blk_simp [iblk, V]
  blk_ext [gateBlock t]

set_option maxHeartbeats 1600000 in
/-- What a grid point stores at a place of its block is the reference's value at the place of the array. -/
theorem stored (c : Dev nD) (t : Fin cfg0.N) (y) :
    k0_pay1 (F := Ideal) (k0_pay2 (iblk m c 1 t) (iblk m c 7 t) (iblk m c 2 t) (iblk m c 8 t) (X0_3 m c t) (X0_4 m c t)
        (iblk m c 9 t)) (iblk m c 6 t) (iblk m c 0 t) (iblk m c 5 t) y
      = OutProjRefIdeal.Term.whole (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (((cfg0.win 10).blk t).view.emb y) := by
  rw [gateA m c t, gateB m c t]
  pointwise [k0_pay1, k0_pay2, OutProjRefIdeal.Term.whole, OutProjRefIdeal.Term.residual, OutProjRefIdeal.Term.scale,
    OutProjRefIdeal.Term.mixed, OutProjRefIdeal.Term.branch]
  simp only [Ideal.logistic]
  blk_point [iblk, V, blockAt t]

/-- The array the kernel leaves is the reference's function of the arguments. -/
theorem result (c : Dev nD) : (dats m 0 c).arrAt 10 (cfgs 0).N
    = OutProjRefIdeal.Term.whole (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) := by
  refine (dats m 0 c).arrAt_eq_of_covers 10 _ (by decide +kernel) fun t hf y => ?_
  blk_simp; rw [after0_10]
  unfold outsAt0
  frame_out
  exact stored m c t y

end Cert.OutProjIdeal.Whole

end
-- ==== Proof.OutProjSampleTerm.lean ====
module

public import proofs.«01_k».proof.Proof.Gen.OutProjSampleRefIdeal.Run

@[expose] public section

set_option maxRecDepth 16384

noncomputable section

open Idealize.ShloMosaic Idealize.ShloMosaic.TcCoe Idealize.SL.Sem

namespace Cert.OutProjSampleRefIdeal.Term

open Cert.OutProjSampleRefIdeal Cert.OutProjSampleRefIdeal.Gen

variable {F : FTy → Type} [FloatOps F]

/-- One branch of the mix: the attention output through its weights, under the sigmoid of its gate. -/
def branch (u : FVec F S2x8192x1024 .f32) (o : FVec F S2x8192x512 .bf16) (w : FVec F S512x1024 .bf16) :
    FVec F S2x8192x1024 .f32 :=
  mulf
    (Host.divf (broadcastInDim S2x8192x1024 ![] bcast_S_S2x8192x1024 (constant S_ .f32 0x3F800000#32))
      (addf (broadcastInDim S2x8192x1024 ![] bcast_S_S2x8192x1024 (constant S_ .f32 0x3F800000#32))
        (Host.exp (Host.negf u))))
    (Host.dotGeneral dot_S2x8192x512_S512x1024_S2x8192x1024_2_0_01_1_n_n none (extf .f32 o bitsLt_bf16_f32)
      (extf .f32 w bitsLt_bf16_f32))

/-- The two branches' sum through the output weights. -/
def mixed (oa ob : FVec F S2x8192x512 .bf16) (p : FVec F S2x8192x5376 .bf16) (wa wb : FVec F S512x1024 .bf16)
    (wo : FVec F S1024x1024 .bf16) : FVec F S2x8192x1024 .f32 :=
  Host.dotGeneral dot_S2x8192x1024_S1024x1024_S2x8192x1024_2_0_01_1_n_n none
    (addf
      (branch (extractStridedSlice S2x8192x1024 ![0, 0, 0] (extf .f32 p bitsLt_bf16_f32)
        slices_S2x8192x5376_S2x8192x1024_0_0_0) oa wa)
      (branch (extractStridedSlice S2x8192x1024 ![0, 0, 1024] (extf .f32 p bitsLt_bf16_f32)
        slices_S2x8192x5376_S2x8192x1024_0_0_1024) ob wb))
    (extf .f32 wo bitsLt_bf16_f32)

/-- The reciprocal root of each row's mean square. -/
def scale (y : FVec F S2x8192x1024 .f32) : FVec F S2x8192x1 .f32 :=
  Host.rsqrt (addf
    (Host.divf
      (broadcastInDim S2x8192x1 ![0, 1] bcast_S2x8192_S2x8192x1_0_1
        (Host.reduceAdd (mulf y y) (constant S_ .f32 0x00000000#32) reducesTo_S2x8192x1024_S2x8192_d2 h_S_))
      (broadcastInDim S2x8192x1 ![] bcast_S_S2x8192x1 (constant S_ .f32 0x44800000#32)))
    (broadcastInDim S2x8192x1 ![] bcast_S_S2x8192x1 (constant S_ .f32 0x358637BD#32)))

/-- The residual step over the mixed rows. -/
def residual (x : FVec F S2x8192x1024 .f32) (y : FVec F S2x8192x1024 .f32) (gate : FVec F S2x1x1024 .f32)
    (g : FVec F S1x1024 .f32) : FVec F S2x8192x1024 .f32 :=
  addf x
    (mulf (broadcastInDim S2x8192x1024 ![0, 1, 2] bcast_S2x1x1024_S2x8192x1024_0_1_2 gate)
      (mulf (mulf y (broadcastInDim S2x8192x1024 ![0, 1, 2] bcast_S2x8192x1_S2x8192x1024_0_1_2 (scale y)))
        (broadcastInDim S2x8192x1024 ![0, 1, 2] bcast_S1x1x1024_S2x8192x1024_0_1_2
          (broadcastInDim S1x1x1024 ![1, 2] bcast_S1x1024_S1x1x1024_1_2 g))))

/-- The second batch's output projection's reference as one function of its nine arguments. -/
def whole (x : FVec F S2x8192x1024 .f32) (oa ob : FVec F S2x8192x512 .bf16) (p : FVec F S2x8192x5376 .bf16)
    (gate : FVec F S2x1x1024 .f32) (g : FVec F S1x1024 .f32) (wa wb : FVec F S512x1024 .bf16)
    (wo : FVec F S1024x1024 .bf16) : FVec F S2x8192x1024 .f32 :=
  residual x (mixed oa ob p wa wb wo) gate g

/-- Equal arguments give the same result. -/
theorem whole_congr {x x' : FVec F S2x8192x1024 .f32} {oa oa' ob ob' : FVec F S2x8192x512 .bf16}
    {p p' : FVec F S2x8192x5376 .bf16} {gate gate' : FVec F S2x1x1024 .f32} {g g' : FVec F S1x1024 .f32}
    {wa wa' wb wb' : FVec F S512x1024 .bf16} {wo wo' : FVec F S1024x1024 .bf16}
    (h0 : x = x') (h1 : oa = oa') (h2 : ob = ob') (h3 : p = p') (h4 : gate = gate') (h5 : g = g') (h6 : wa = wa')
    (h7 : wb = wb') (h8 : wo = wo') : whole x oa ob p gate g wa wb wo = whole x' oa' ob' p' gate' g' wa' wb' wo' := by
  subst h0 h1 h2 h3 h4 h5 h6 h7 h8; rfl

/-- What the reference's run leaves is `whole` of its arguments. -/
theorem run_eq (m : (ℓ : Loc nD τ sig) → Buf (Elt F) ℓ) (c : Dev nD) :
    Value.res_main_v41 m c = whole (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := rfl

end Cert.OutProjSampleRefIdeal.Term

end
-- ==== Proof.OutProjSample.lean ====
module

public import proofs.«01_k».proof.Proof.Gen.OutProjSampleIdeal.Value
public import proofs.«01_k».proof.Proof.OutProjSampleTerm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjSampleIdeal.Whole

open Cert.OutProjSampleIdeal Cert.OutProjSampleIdeal.Gen

variable (m : (ℓ : Loc nD τ sig) → Buf (Elt Ideal) ℓ)

/-- The block each window stages at a grid point, from the point's number: 8 row blocks to a batch. -/
theorem blockAt : ∀ t : Fin cfg0.N, win0_0.index t = ![t.val / 8, t.val % 8, 0]
    ∧ win0_1.index t = ![t.val / 8, t.val % 8, 0]
    ∧ win0_2.index t = ![t.val / 8, t.val % 8, 0]
    ∧ win0_5.index t = ![t.val / 8, 0, 0]
    ∧ win0_6.index t = ![0, 0]
    ∧ win0_7.index t = ![0, 0]
    ∧ win0_8.index t = ![0, 0]
    ∧ win0_9.index t = ![0, 0]
    ∧ win0_10.index t = ![t.val / 8, t.val % 8, 0] :=
  (by decide +kernel : ∀ t : Fin grid0.N, _)

/-- The two gate windows stage neighbouring column blocks of the same rows. -/
theorem gateBlock : ∀ t : Fin cfg0.N, win0_3.index t = ![t.val / 8, t.val % 8, 0]
    ∧ win0_4.index t = ![t.val / 8, t.val % 8, 1] ∧ t.val < 16 :=
  (by decide +kernel : ∀ t : Fin grid0.N, _)

/-- The first gate's block is the projection's first column block of the point's rows. -/
theorem gateA (c : Dev nD) (t : Fin cfg0.N) :
    (X0_3 m c t : FVec Ideal S1x1024x1024 .bf16) = fun y => (m ((c : Thread nD τ).loc main_arg3) : FVec Ideal S2x8192x5376 .bf16)
      (ix3 ⟨t.val / 8, by have := (gateBlock t).2.2; omega⟩
        ⟨t.val % 8 * 1024 + (y 1).val, by have : (y 1).val < 1024 := (y 1).isLt; omega⟩
        ⟨(y 2).val, by have : (y 2).val < 1024 := (y 2).isLt; omega⟩) := by
  funext y
  unfold X0_3 Pipeline.Window.fill
  rw [dif_pos (moved0_3 t _)]
  blk_simp [iblk, V]
  blk_ext [gateBlock t]

/-- The second gate's block is the projection's second column block of the point's rows. -/
theorem gateB (c : Dev nD) (t : Fin cfg0.N) :
    (X0_4 m c t : FVec Ideal S1x1024x1024 .bf16) = fun y => (m ((c : Thread nD τ).loc main_arg3) : FVec Ideal S2x8192x5376 .bf16)
      (ix3 ⟨t.val / 8, by have := (gateBlock t).2.2; omega⟩
        ⟨t.val % 8 * 1024 + (y 1).val, by have : (y 1).val < 1024 := (y 1).isLt; omega⟩
        ⟨1024 + (y 2).val, by have : (y 2).val < 1024 := (y 2).isLt; omega⟩) := by
  funext y
  unfold X0_4 Pipeline.Window.fill
  rw [dif_pos (moved0_4 t _)]
  blk_simp [iblk, V]
  blk_ext [gateBlock t]

set_option maxHeartbeats 1600000 in
/-- What a grid point stores at a place of its block is the reference's value at the place of the array. -/
theorem stored (c : Dev nD) (t : Fin cfg0.N) (y) :
    k0_pay1 (F := Ideal) (k0_pay2 (iblk m c 1 t) (iblk m c 7 t) (iblk m c 2 t) (iblk m c 8 t) (X0_3 m c t) (X0_4 m c t)
        (iblk m c 9 t)) (iblk m c 6 t) (iblk m c 0 t) (iblk m c 5 t) y
      = OutProjSampleRefIdeal.Term.whole (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (((cfg0.win 10).blk t).view.emb y) := by
  rw [gateA m c t, gateB m c t]
  pointwise [k0_pay1, k0_pay2, OutProjSampleRefIdeal.Term.whole, OutProjSampleRefIdeal.Term.residual, OutProjSampleRefIdeal.Term.scale,
    OutProjSampleRefIdeal.Term.mixed, OutProjSampleRefIdeal.Term.branch]
  simp only [Ideal.logistic]
  blk_point [iblk, V, blockAt t]

/-- The array the kernel leaves is the reference's function of the arguments. -/
theorem result (c : Dev nD) : (dats m 0 c).arrAt 10 (cfgs 0).N
    = OutProjSampleRefIdeal.Term.whole (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) := by
  refine (dats m 0 c).arrAt_eq_of_covers 10 _ (by decide +kernel) fun t hf y => ?_
  blk_simp; rw [after0_10]
  unfold outsAt0
  frame_out
  exact stored m c t y

end Cert.OutProjSampleIdeal.Whole

end
-- ==== Proof.SwTrip.lean ====
module

public import proofs.«01_k».proof.Proof.Gen.SwIdeal.Value
public import Idealize.ShloMosaic.Lib.Pipeline.ValueKit
public import Idealize.ShloMosaic.Lib.Claim
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.SwIdeal.Whole

open Cert.SwIdeal Cert.SwIdeal.Gen

/-- The logarithm's named constant, 1 / log 2. -/
abbrev cl : EReal := (((Real.log 2)⁻¹ : ℝ) : EReal)

/-- The scale's named constant, 1 / (8 log 2). -/
abbrev cq : EReal := (((8 * Real.log 2)⁻¹ : ℝ) : EReal)

/-- The scores of four heads of one key head against 384 keys: the queries' rows stacked head upon head, the keys'
columns of the other key head cleared, scaled, with the bias added. -/
def scores (sel : IVec S1x128 1) (q : Vec Ideal S1x128x512 .bf16) (k : Vec Ideal S1x384x128 .bf16)
    (b : Vec Ideal S1x1x512x384 .f32) : FVec Ideal S512x384 .f32 := k0_pay8 (k0_pay7 sel q k) b

/-- The weights of one head, before their sum is divided out. -/
def wts (s : FVec Ideal S128x384 .f32) (k : EReal) : FVec Ideal S128x384 .bf16 :=
  exp2 (truncf .bf16 (subf s (broadcastTo S128x384 (k0_pay26 (F := Ideal) s k cl) broadcasts_S128x1_S128x384)) bitsLt_bf16_f32)

/-- The sink's weight of one head. -/
def sinkW (s : FVec Ideal S128x384 .f32) (k : EReal) : FVec Ideal S128x1 .f32 :=
  exp2 (subf (broadcast S128x1 (k0_pay25 (F := Ideal) k cl)) (k0_pay26 (F := Ideal) s k cl))

/-- The rows of head `0`, `1`, `2`, `3` among the stacked scores. -/
def rows0 (s : FVec Ideal S512x384 .f32) : FVec Ideal S128x384 .f32 :=
  extractStridedSlice S128x384 ![0, 0] s slices_S512x384_o0_0_S128x384
def rows1 (s : FVec Ideal S512x384 .f32) : FVec Ideal S128x384 .f32 :=
  extractStridedSlice S128x384 ![128, 0] s slices_S512x384_o128_0_S128x384
def rows2 (s : FVec Ideal S512x384 .f32) : FVec Ideal S128x384 .f32 :=
  extractStridedSlice S128x384 ![256, 0] s slices_S512x384_o256_0_S128x384
def rows3 (s : FVec Ideal S512x384 .f32) : FVec Ideal S128x384 .f32 :=
  extractStridedSlice S128x384 ![384, 0] s slices_S512x384_o384_0_S128x384

/-- The four heads' sink weights, stacked. -/
def sinks (s : FVec Ideal S512x384 .f32) (k : Fin 4 → EReal) : FVec Ideal S512x1 .f32 :=
  concatenate S512x1 0 [⟨S128x1, sinkW (rows0 s) (k 0)⟩, ⟨S128x1, sinkW (rows1 s) (k 1)⟩, ⟨S128x1, sinkW (rows2 s) (k 2)⟩,
    ⟨S128x1, sinkW (rows3 s) (k 3)⟩] concatenates_S128x1_S128x1_S128x1_S128x1_S512x1_d0

/-- The four heads' weighted values, stacked: the values' columns of the other key head are replaced by ones, so that
those columns hold the sums of the weights. -/
def sums (sel : IVec S1x128 1) (s : FVec Ideal S512x384 .f32) (k : Fin 4 → EReal) (v : Vec Ideal S1x384x128 .bf16) :
    FVec Ideal S512x128 .f32 :=
  matmul dot_S512x384_S384x128_S512x128_1_0_0_1_n_n none
    (concatenate S512x384 0 [⟨S128x384, wts (rows0 s) (k 0)⟩, ⟨S128x384, wts (rows1 s) (k 1)⟩,
      ⟨S128x384, wts (rows2 s) (k 2)⟩, ⟨S128x384, wts (rows3 s) (k 3)⟩]
      concatenates_S128x384_S128x384_S128x384_S128x384_S512x384_d0)
    (select (broadcastTo S384x128 (shapeCast S1x128 sel shapeCasts_S1x128_S1x128) broadcasts_S1x128_S384x128)
      (k0_pay6 (F := Ideal) v) (broadcast S384x128 (Scalar.ofBits (F := Ideal) .bf16 0x3F80#16)))
    (constant S512x128 .f32 0x00000000#32)

/-- What one trip stores: the block of 128 positions, all heads. -/
def stored (sink : Fin 2 → Fin 4 → EReal) (q : Vec Ideal S1x128x512 .bf16) (k v : Vec Ideal S1x384x128 .bf16)
    (z : Vec Ideal S1x128x512 .bf16) (b0 b1 : Vec Ideal S1x1x512x384 .f32) : FVec Ideal S1x128x512 .bf16 :=
  k0_pay3 (F := Ideal) (sinks (scores k0_pay1 q k b0) (sink 0)) (sums k0_pay1 (scores k0_pay1 q k b0) (sink 0) v)
    (sinks (scores k0_pay2 q k b1) (sink 1)) (sums k0_pay2 (scores k0_pay2 q k b1) (sink 1) v) (k0_pay46 k0_pay1) z

/-- The named constant that the loop reads. -/
theorem cst_log2e : trip_k0_t1.sl.cst_27 (F := Ideal) = cl := rfl

/-- A trip's one store: the block of 128 positions that it computes from its loads. -/
theorem trip (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x2048x512 .bf16) (harg6 : arg6.IsWhole) (arg7 : Memref sig .tc .vmem S3x2x512x384 .f32) (harg7 : arg7.IsWhole) (arg8 : Memref sig .tc .vmem S1x2048x512 .bf16) (harg8 : arg8.IsWhole) (arg1 : BitVec 32)
    (x0 : Vec Ideal S8 .f32) (x1 : Vec Ideal S1x2048x512 .bf16) (x2 : Vec Ideal S1x8192x128 .bf16) (x3 : Vec Ideal S1x8192x128 .bf16) (x4 : Vec Ideal S1x2048x512 .bf16) (x5 : Vec Ideal S3x2x512x384 .f32) (k : Fin k0_t1_loop.trips)
    : tripL_k0_t1 (F := Ideal) Variants.none c none i arg2 harg2 arg3 harg3 arg4 harg4 arg5 harg5 arg6 harg6 arg7 harg7 arg8 harg8 arg1
      (harg2.unread x0) (harg3.unread x1) (harg4.unread x2) (harg5.unread x3) (harg6.unread x4) (harg7.unread x5) k =
      [⟨Rect.unit (s := S1x2048x512) (k0_off1 k) S1x128x512.size (k0_off1_inb k),
        stored (fun g j => x0 (ix1 ⟨4 * g + j, by omega⟩))
          (fun y => x1 ((Rect.unit (s := S1x2048x512) (k0_off1 k) S1x128x512.size (k0_off1_inb k)).toLoadRect.idx y))
          (fun y => x2 ((Rect.unit (s := S1x8192x128) (k0_off2 i k) S1x384x128.size (k0_off2_inb i k)).toLoadRect.idx y))
          (fun y => x3 ((Rect.unit (s := S1x8192x128) (k0_off2 i k) S1x384x128.size (k0_off2_inb i k)).toLoadRect.idx y))
          (fun y => x4 ((Rect.unit (s := S1x2048x512) (k0_off1 k) S1x128x512.size (k0_off1_inb k)).toLoadRect.idx y))
          (fun y => x5 ((Rect.unit (s := S3x2x512x384) (k0_off3 i k) S1x1x512x384.size (k0_off3_inb i k)).toLoadRect.idx y))
          (fun y => x5 ((Rect.unit (s := S3x2x512x384) (k0_off4 i k) S1x1x512x384.size (k0_off4_inb i k)).toLoadRect.idx y))⟩] := by
  have hs : ∀ (j : Fin 8) (h : ∀ a, (![(j : ℕ)] : Fin 1 → ℕ) a + S1.size a ≤ S8.size a) (y : S1.Idx),
      View.readAt (Elt Ideal) arg2.view (Rect.unit (s := S8) ![(j : ℕ)] S1.size h).toLoadRect (harg2.unread x0) y
        = x0 (ix1 j) := by
    intro j h y
    rw [harg2.readAt_unread]
    congr 1
    blk_ext
    first
    | (show (j : ℕ) + 1 * (y 0 : ℕ) = j; omega)
    | (show (j : ℕ) + (y 0 : ℕ) * 1 = j; omega)
    | (show (j : ℕ) + (y 0 : ℕ) = j; omega)
  have h3 : ∀ B, View.readAt (Elt Ideal) arg3.view B (harg3.unread x1) = fun y => x1 (B.idx y) :=
    fun B => funext fun y => harg3.readAt_unread x1 B y
  have h4 : ∀ B, View.readAt (Elt Ideal) arg4.view B (harg4.unread x2) = fun y => x2 (B.idx y) :=
    fun B => funext fun y => harg4.readAt_unread x2 B y
  have h5 : ∀ B, View.readAt (Elt Ideal) arg5.view B (harg5.unread x3) = fun y => x3 (B.idx y) :=
    fun B => funext fun y => harg5.readAt_unread x3 B y
  have h6 : ∀ B, View.readAt (Elt Ideal) arg6.view B (harg6.unread x4) = fun y => x4 (B.idx y) :=
    fun B => funext fun y => harg6.readAt_unread x4 B y
  have h7 : ∀ B, View.readAt (Elt Ideal) arg7.view B (harg7.unread x5) = fun y => x5 (B.idx y) :=
    fun B => funext fun y => harg7.readAt_unread x5 B y
  unfold tripL_k0_t1 trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27]
  have e0 := hs 0 inb_S8_S1_0; have e1 := hs 1 inb_S8_S1_1; have e2 := hs 2 inb_S8_S1_2; have e3 := hs 3 inb_S8_S1_3
  have e4 := hs 4 inb_S8_S1_4; have e5 := hs 5 inb_S8_S1_5; have e6 := hs 6 inb_S8_S1_6; have e7 := hs 7 inb_S8_S1_7
  rw [h3, h4, h5, h6, h7, h7, cst_log2e]
  simp only [Fin.val_zero] at e0
  rw [show View.readAt (Elt Ideal) arg2.view (Rect.unit (s := S8) ![0] S1.size inb_S8_S1_0).toLoadRect (harg2.unread x0) _ = x0 (ix1 0) from e0 _,
    show View.readAt (Elt Ideal) arg2.view (Rect.unit (s := S8) ![1] S1.size inb_S8_S1_1).toLoadRect (harg2.unread x0) _ = x0 (ix1 1) from e1 _,
    show View.readAt (Elt Ideal) arg2.view (Rect.unit (s := S8) ![2] S1.size inb_S8_S1_2).toLoadRect (harg2.unread x0) _ = x0 (ix1 2) from e2 _,
    show View.readAt (Elt Ideal) arg2.view (Rect.unit (s := S8) ![3] S1.size inb_S8_S1_3).toLoadRect (harg2.unread x0) _ = x0 (ix1 3) from e3 _,
    show View.readAt (Elt Ideal) arg2.view (Rect.unit (s := S8) ![4] S1.size inb_S8_S1_4).toLoadRect (harg2.unread x0) _ = x0 (ix1 4) from e4 _,
    show View.readAt (Elt Ideal) arg2.view (Rect.unit (s := S8) ![5] S1.size inb_S8_S1_5).toLoadRect (harg2.unread x0) _ = x0 (ix1 5) from e5 _,
    show View.readAt (Elt Ideal) arg2.view (Rect.unit (s := S8) ![6] S1.size inb_S8_S1_6).toLoadRect (harg2.unread x0) _ = x0 (ix1 6) from e6 _,
    show View.readAt (Elt Ideal) arg2.view (Rect.unit (s := S8) ![7] S1.size inb_S8_S1_7).toLoadRect (harg2.unread x0) _ = x0 (ix1 7) from e7 _]
  rfl

end Cert.SwIdeal.Whole
end
-- ==== Proof.SwBlock.lean ====
module

public import proofs.«01_k».proof.Proof.SwTrip

@[expose] public section

set_option maxRecDepth 16384

noncomputable section

open Idealize.ShloMosaic Idealize.ShloMosaic.TcCoe Idealize.SL.Sem
open Idealize.ShloMosaic.Pipeline (Dat)

namespace Cert.SwIdeal.Whole

open Cert.SwIdeal Cert.SwIdeal.Gen

/-- Row `r` of head `j` among the four heads' stacked rows. -/
abbrev row (j : Fin 4) (r : Fin 128) : Fin 512 := ⟨128 * j + r, by omega⟩

/-- The lanes of key head 0 are the first 64. -/
theorem low_lane (l : Fin 128) : k0_pay1 (ix2 0 l) = if (l : ℕ) < 64 then 1#1 else 0#1 := by
  revert l; decide +kernel

/-- The lanes of key head 1 are the last 64. -/
theorem high_lane (l : Fin 128) : k0_pay2 (ix2 0 l) = if (l : ℕ) < 64 then 0#1 else 1#1 := by
  revert l; decide +kernel

theorem rows_apply (s : FVec Ideal S512x384 .f32) (r : Fin 128) (c : Fin 384) :
    rows0 s (ix2 r c) = s (ix2 (row 0 r) c) ∧ rows1 s (ix2 r c) = s (ix2 (row 1 r) c)
      ∧ rows2 s (ix2 r c) = s (ix2 (row 2 r) c) ∧ rows3 s (ix2 r c) = s (ix2 (row 3 r) c) := by
  refine ⟨?_, ?_, ?_, ?_⟩
  · pointwise [rows0]
    refine congrArg s (congrArg (fun a => ix2 a c) (Fin.ext ?_))
    show (r : ℕ) = 128 * 0 + r; omega
  · pointwise [rows1]
    rfl
  · pointwise [rows2]
    rfl
  · pointwise [rows3]
    rfl

/-- The maximum of a head's row and its sink. -/
def top (s : Fin 384 → EReal) (k : EReal) : EReal := max (Finset.univ.fold max ⊥ s) (k * cl)

theorem top_apply (s : FVec Ideal S128x384 .f32) (k : EReal) (r : Fin 128) :
    k0_pay26 (F := Ideal) s k cl (ix2 r 0) = top (fun c => s (ix2 r c)) k := by
  pointwise [k0_pay26, k0_pay25]
  rw [show Ideal.ofBits FTy.f32 4286578688#32 = ⊥ by simp [Ideal.ofBits, Ideal.ieee]]
  rfl

theorem wts_apply (s : FVec Ideal S128x384 .f32) (k : EReal) (r : Fin 128) (c : Fin 384) :
    wts s k (ix2 r c) = Ideal.exp2 (s (ix2 r c) - top (fun c => s (ix2 r c)) k) := by
  pointwise [wts]
  rw [top_apply]; rfl

theorem sinkW_apply (s : FVec Ideal S128x384 .f32) (k : EReal) (r : Fin 128) :
    sinkW s k (ix2 r 0) = Ideal.exp2 (k * cl - top (fun c => s (ix2 r c)) k) := by
  pointwise [sinkW, k0_pay25]
  rw [top_apply]; rfl

theorem scores_apply (sel : IVec S1x128 1) (q : Vec Ideal S1x128x512 .bf16) (k : Vec Ideal S1x384x128 .bf16)
    (b : Vec Ideal S1x1x512x384 .f32) (j : Fin 4) (r : Fin 128) (c : Fin 384) :
    scores sel q k b (ix2 (row j r) c) = (∑ l : Fin 128, Scalar.select (sel (ix2 0 l))
      (q (ix3 0 r ⟨128 * j + l, by omega⟩) * k (ix3 0 c l)) 0) * cq + b (ix4 0 0 (row j r) c) * cl := by
  have h := j.isLt
  pointwise [scores, k0_pay8, k0_pay7, k0_pay4, k0_pay5, row]
  refine congrArg₂ (· + ·) (congrArg₂ (· * ·) (Finset.sum_congr rfl fun x _ => ?_) rfl) rfl
  refine congrArg (fun a => Scalar.select (sel (ix2 0 x)) (a * k (ix3 0 c x)) 0) ?_
  split_ifs <;> (refine congrArg q ?_; congr 1 <;> (apply Fin.ext; simp only []; omega))

/-- The four heads' weights, stacked. -/
def weights (s : FVec Ideal S512x384 .f32) (k : Fin 4 → EReal) : FVec Ideal S512x384 .bf16 :=
  concatenate S512x384 0 [⟨S128x384, wts (rows0 s) (k 0)⟩, ⟨S128x384, wts (rows1 s) (k 1)⟩,
      ⟨S128x384, wts (rows2 s) (k 2)⟩, ⟨S128x384, wts (rows3 s) (k 3)⟩]
      concatenates_S128x384_S128x384_S128x384_S128x384_S512x384_d0

theorem sinks_apply (s : FVec Ideal S512x384 .f32) (k : Fin 4 → EReal) (j : Fin 4) (r : Fin 128) :
    sinks s k (ix2 (row j r) 0) = Ideal.exp2 (k j * cl - top (fun c => s (ix2 (row j r) c)) (k j)) := by
  have hj := j.isLt
  obtain ⟨h0, h1, h2, h3⟩ : _ ∧ _ ∧ _ ∧ _ := ⟨fun c => (rows_apply s r c).1, fun c => (rows_apply s r c).2.1,
    fun c => (rows_apply s r c).2.2.1, fun c => (rows_apply s r c).2.2.2⟩
  rcases (by omega : (j : ℕ) = 0 ∨ (j : ℕ) = 1 ∨ (j : ℕ) = 2 ∨ (j : ℕ) = 3) with h | h | h | h
  · obtain rfl : j = 0 := Fin.ext h
    have e : sinks s k (ix2 ⟨(r : ℕ), by omega⟩ 0) = sinkW (rows0 s) (k 0) (ix2 r 0) := by
      pointwise [sinks]
    rw [show row 0 r = ⟨(r : ℕ), by omega⟩ from Fin.ext (by show 128 * 0 + (r : ℕ) = r; omega)]
    refine e.trans ?_
    rw [sinkW_apply]
    simp only [h0, row, Fin.val_zero, Nat.mul_zero, Nat.zero_add]
  · obtain rfl : j = 1 := Fin.ext h
    have e : sinks s k (ix2 ⟨128 + (r : ℕ), by omega⟩ 0) = sinkW (rows1 s) (k 1) (ix2 r 0) := by
      pointwise [sinks]
    rw [show row 1 r = ⟨128 + (r : ℕ), by omega⟩ from Fin.ext (by show 128 * 1 + (r : ℕ) = 128 + r; omega)]
    refine e.trans ?_
    rw [sinkW_apply]
    simp only [h1]
    first | rfl | (simp only [row, Fin.val_zero, Nat.mul_zero, Nat.zero_add]; rfl)
  · obtain rfl : j = 2 := Fin.ext h
    have e : sinks s k (ix2 ⟨256 + (r : ℕ), by omega⟩ 0) = sinkW (rows2 s) (k 2) (ix2 r 0) := by
      pointwise [sinks]
      rw [dif_neg (by omega), dif_neg (by omega), dif_pos (by omega)]
      exact congrArg (fun a => sinkW (rows2 s) (k 2) (ix2 a 0)) (Fin.ext (by show 256 + (r : ℕ) - 128 - 128 = r; omega))
    rw [show row 2 r = ⟨256 + (r : ℕ), by omega⟩ from Fin.ext (by show 128 * 2 + (r : ℕ) = 256 + r; omega)]
    refine e.trans ?_
    rw [sinkW_apply]
    simp only [h2]
    first | rfl | (simp only [row, Fin.val_zero, Nat.mul_zero, Nat.zero_add]; rfl)
  · obtain rfl : j = 3 := Fin.ext h
    have e : sinks s k (ix2 ⟨384 + (r : ℕ), by omega⟩ 0) = sinkW (rows3 s) (k 3) (ix2 r 0) := by
      pointwise [sinks]
      rw [dif_neg (by omega), dif_neg (by omega), dif_neg (by omega)]
      exact congrArg (fun a => sinkW (rows3 s) (k 3) (ix2 a 0)) (Fin.ext (by show 384 + (r : ℕ) - 128 - 128 - 128 = r; omega))
    rw [show row 3 r = ⟨384 + (r : ℕ), by omega⟩ from Fin.ext (by show 128 * 3 + (r : ℕ) = 384 + r; omega)]
    refine e.trans ?_
    rw [sinkW_apply]
    simp only [h3]
    first | rfl | (simp only [row, Fin.val_zero, Nat.mul_zero, Nat.zero_add]; rfl)

theorem weights_apply (s : FVec Ideal S512x384 .f32) (k : Fin 4 → EReal) (j : Fin 4) (r : Fin 128) (c : Fin 384) :
    weights s k (ix2 (row j r) c) = Ideal.exp2 (s (ix2 (row j r) c) - top (fun c => s (ix2 (row j r) c)) (k j)) := by
  have hj := j.isLt
  obtain ⟨h0, h1, h2, h3⟩ : _ ∧ _ ∧ _ ∧ _ := ⟨fun c => (rows_apply s r c).1, fun c => (rows_apply s r c).2.1,
    fun c => (rows_apply s r c).2.2.1, fun c => (rows_apply s r c).2.2.2⟩
  rcases (by omega : (j : ℕ) = 0 ∨ (j : ℕ) = 1 ∨ (j : ℕ) = 2 ∨ (j : ℕ) = 3) with h | h | h | h
  · obtain rfl : j = 0 := Fin.ext h
    have e : weights s k (ix2 ⟨(r : ℕ), by omega⟩ c) = wts (rows0 s) (k 0) (ix2 r c) := by
      pointwise [weights]
    rw [show row 0 r = ⟨(r : ℕ), by omega⟩ from Fin.ext (by show 128 * 0 + (r : ℕ) = r; omega)]
    refine e.trans ?_
    rw [wts_apply]
    simp only [h0, row, Fin.val_zero, Nat.mul_zero, Nat.zero_add]
  · obtain rfl : j = 1 := Fin.ext h
    have e : weights s k (ix2 ⟨128 + (r : ℕ), by omega⟩ c) = wts (rows1 s) (k 1) (ix2 r c) := by
      pointwise [weights]
    rw [show row 1 r = ⟨128 + (r : ℕ), by omega⟩ from Fin.ext (by show 128 * 1 + (r : ℕ) = 128 + r; omega)]
    refine e.trans ?_
    rw [wts_apply]
    simp only [h1]
    first | rfl | (simp only [row, Fin.val_zero, Nat.mul_zero, Nat.zero_add]; rfl)
  · obtain rfl : j = 2 := Fin.ext h
    have e : weights s k (ix2 ⟨256 + (r : ℕ), by omega⟩ c) = wts (rows2 s) (k 2) (ix2 r c) := by
      pointwise [weights]
      rw [dif_neg (by omega), dif_neg (by omega), dif_pos (by omega)]
      exact congrArg (fun a => wts (rows2 s) (k 2) (ix2 a c)) (Fin.ext (by show 256 + (r : ℕ) - 128 - 128 = r; omega))
    rw [show row 2 r = ⟨256 + (r : ℕ), by omega⟩ from Fin.ext (by show 128 * 2 + (r : ℕ) = 256 + r; omega)]
    refine e.trans ?_
    rw [wts_apply]
    simp only [h2]
    first | rfl | (simp only [row, Fin.val_zero, Nat.mul_zero, Nat.zero_add]; rfl)
  · obtain rfl : j = 3 := Fin.ext h
    have e : weights s k (ix2 ⟨384 + (r : ℕ), by omega⟩ c) = wts (rows3 s) (k 3) (ix2 r c) := by
      pointwise [weights]
      rw [dif_neg (by omega), dif_neg (by omega), dif_neg (by omega)]
      exact congrArg (fun a => wts (rows3 s) (k 3) (ix2 a c)) (Fin.ext (by show 384 + (r : ℕ) - 128 - 128 - 128 = r; omega))
    rw [show row 3 r = ⟨384 + (r : ℕ), by omega⟩ from Fin.ext (by show 128 * 3 + (r : ℕ) = 384 + r; omega)]
    refine e.trans ?_
    rw [wts_apply]
    simp only [h3]
    first | rfl | (simp only [row, Fin.val_zero, Nat.mul_zero, Nat.zero_add]; rfl)

theorem sums_eq (sel : IVec S1x128 1) (s : FVec Ideal S512x384 .f32) (k : Fin 4 → EReal)
    (v : Vec Ideal S1x384x128 .bf16) : sums sel s k v =
  matmul dot_S512x384_S384x128_S512x128_1_0_0_1_n_n none (weights s k)
    (select (broadcastTo S384x128 (shapeCast S1x128 sel shapeCasts_S1x128_S1x128) broadcasts_S1x128_S384x128)
      (k0_pay6 (F := Ideal) v) (broadcast S384x128 (Scalar.ofBits (F := Ideal) .bf16 0x3F80#16)))
    (constant S512x128 .f32 0x00000000#32) := rfl

theorem sums_apply (sel : IVec S1x128 1) (s : FVec Ideal S512x384 .f32) (k : Fin 4 → EReal)
    (v : Vec Ideal S1x384x128 .bf16) (j : Fin 4) (r : Fin 128) (l : Fin 128) :
    sums sel s k v (ix2 (row j r) l) = ∑ c : Fin 384, Ideal.exp2 (s (ix2 (row j r) c) - top (fun c => s (ix2 (row j r) c)) (k j))
      * Scalar.select (sel (ix2 0 l)) (v (ix3 0 c l)) 1 := by
  rw [sums_eq]
  simp only [← weights_apply]
  generalize weights s k = w
  pointwise [k0_pay6]

/-- A lane of the other half, for a low lane. -/
abbrev up (l : Fin 64) : Fin 128 := ⟨l + 64, by omega⟩
/-- A low lane. -/
abbrev lo (l : Fin 64) : Fin 128 := ⟨l, by omega⟩

theorem select_low (l : Fin 64) {α : Type} (x y : α) : Scalar.select (k0_pay1 (ix2 0 (lo l))) x y = x := by
  rw [low_lane, if_pos l.isLt]; rfl
theorem select_low_up (l : Fin 64) {α : Type} (x y : α) : Scalar.select (k0_pay1 (ix2 0 (up l))) x y = y := by
  rw [low_lane, if_neg (by show ¬ (l : ℕ) + 64 < 64; omega)]; rfl
theorem select_high (l : Fin 64) {α : Type} (x y : α) : Scalar.select (k0_pay2 (ix2 0 (lo l))) x y = y := by
  rw [high_lane, if_pos l.isLt]; rfl
theorem select_high_up (l : Fin 64) {α : Type} (x y : α) : Scalar.select (k0_pay2 (ix2 0 (up l))) x y = x := by
  rw [high_lane, if_neg (by show ¬ (l : ℕ) + 64 < 64; omega)]; rfl

/-- The lane 64 lanes away. -/
abbrev other (l : Fin 128) : Fin 128 := ⟨(l + 64) % 128, by omega⟩

/-- The quotients, head rows stacked. -/
def quot (a c : FVec Ideal S512x1 .f32) (b d : FVec Ideal S512x128 .f32) : FVec Ideal S512x128 .f32 :=
  divf (select (broadcastTo S512x128 (k0_pay46 k0_pay1) broadcasts_S1x128_S512x128) b d)
    (addf (dynamicRotate 1 64#32 none (select (broadcastTo S512x128 (shapeCast S1x128 k0_pay1 shapeCasts_S1x128_S1x128) broadcasts_S1x128_S512x128) d b) rotates_S512x128_d1)
      (select (broadcastTo S512x128 (shapeCast S1x128 k0_pay1 shapeCasts_S1x128_S1x128) broadcasts_S1x128_S512x128) (broadcastTo S512x128 (shapeCast S512x1 a shapeCasts_S512x1_S512x1) broadcasts_S512x1_S512x128)
        (broadcastTo S512x128 (shapeCast S512x1 c shapeCasts_S512x1_S512x1) broadcasts_S512x1_S512x128)))

/-- Stacked head rows laid out head next to head. -/
def cols (w : FVec Ideal S512x128 .f32) : FVec Ideal S128x512 .f32 :=
  concatenate S128x512 1 [⟨S128x128, extractStridedSlice S128x128 ![0, 0] w slices_S512x128_o0_0_S128x128⟩,
    ⟨S128x128, extractStridedSlice S128x128 ![128, 0] w slices_S512x128_o128_0_S128x128⟩,
    ⟨S128x128, extractStridedSlice S128x128 ![256, 0] w slices_S512x128_o256_0_S128x128⟩,
    ⟨S128x128, extractStridedSlice S128x128 ![384, 0] w slices_S512x128_o384_0_S128x128⟩]
    concatenates_S128x128_S128x128_S128x128_S128x128_S128x512_d1

theorem cols_apply (w : FVec Ideal S512x128 .f32) (j : Fin 4) (r : Fin 128) (l : Fin 128) :
    cols w (ix2 r ⟨128 * j + l, by omega⟩) = w (ix2 (row j r) l) := by
  have hj := j.isLt
  rcases (by omega : (j : ℕ) = 0 ∨ (j : ℕ) = 1 ∨ (j : ℕ) = 2 ∨ (j : ℕ) = 3) with h | h | h | h
  · obtain rfl : j = 0 := Fin.ext h
    have e : cols w (ix2 r ⟨(l : ℕ), by omega⟩) = w (ix2 ⟨(r : ℕ), by omega⟩ l) := by pointwise [cols]
    rw [show (⟨128 * ((0 : Fin 4) : ℕ) + l, by show 128 * 0 + (l : ℕ) < 512; omega⟩ : Fin 512) = ⟨(l : ℕ), by omega⟩ from Fin.ext (by show 128 * 0 + (l : ℕ) = l; omega), e]
    exact congrArg (fun a => w (ix2 a l)) (Fin.ext (by show (r : ℕ) = 128 * 0 + r; omega))
  · obtain rfl : j = 1 := Fin.ext h
    have e : cols w (ix2 r ⟨128 + (l : ℕ), by omega⟩) = w (ix2 ⟨128 + (r : ℕ), by omega⟩ l) := by pointwise [cols]
    exact e
  · obtain rfl : j = 2 := Fin.ext h
    have e : cols w (ix2 r ⟨256 + (l : ℕ), by omega⟩) = w (ix2 ⟨256 + (r : ℕ), by omega⟩ l) := by
      pointwise [cols]
      rw [dif_neg (by omega), dif_neg (by omega), dif_pos (by omega)]
      exact congrArg (fun a => w (ix2 _ a)) (Fin.ext (by show 256 + (l : ℕ) - 128 - 128 = l; omega))
    exact e
  · obtain rfl : j = 3 := Fin.ext h
    have e : cols w (ix2 r ⟨384 + (l : ℕ), by omega⟩) = w (ix2 ⟨384 + (r : ℕ), by omega⟩ l) := by
      pointwise [cols]
      rw [dif_neg (by omega), dif_neg (by omega), dif_neg (by omega)]
      exact congrArg (fun a => w (ix2 _ a)) (Fin.ext (by show 384 + (l : ℕ) - 128 - 128 - 128 = l; omega))
    exact e

theorem quot_apply (a c : FVec Ideal S512x1 .f32) (b d : FVec Ideal S512x128 .f32) (p : Fin 512) (l : Fin 128) :
    quot a c b d (ix2 p l) =
      Ideal.div (Scalar.select (k0_pay1 (ix2 0 l)) (b (ix2 p l)) (d (ix2 p l)))
        (Scalar.select (k0_pay1 (ix2 0 (other l))) (d (ix2 p (other l))) (b (ix2 p (other l)))
          + Scalar.select (k0_pay1 (ix2 0 l)) (a (ix2 p 0)) (c (ix2 p 0))) := by
  pointwise [quot, k0_pay46]
  rw [show (⟨((l : ℕ) + 128 - 64) % 128, by omega⟩ : Fin 128) = other l from
    Fin.ext (by show ((l : ℕ) + 128 - 64) % 128 = ((l : ℕ) + 64) % 128; omega)]

theorem pay3_eq (a c : FVec Ideal S512x1 .f32) (b d : FVec Ideal S512x128 .f32) (z : Vec Ideal S1x128x512 .bf16) :
    k0_pay3 (F := Ideal) a b c d (k0_pay46 k0_pay1) z
      = shapeCast S1x128x512 (truncf .bf16 (mulf (cols (quot a c b d))
          (mulf (extf .f32 (shapeCast S128x512 z shapeCasts_S1x128x512_S128x512) bitsLt_bf16_f32)
            (logistic (extf .f32 (shapeCast S128x512 z shapeCasts_S1x128x512_S128x512) bitsLt_bf16_f32)))) bitsLt_bf16_f32)
          shapeCasts_S128x512_S1x128x512 := by
  rfl

theorem pay3_apply (a c : FVec Ideal S512x1 .f32) (b d : FVec Ideal S512x128 .f32) (z : Vec Ideal S1x128x512 .bf16)
    (j : Fin 4) (r : Fin 128) (l : Fin 128) :
    k0_pay3 (F := Ideal) a b c d (k0_pay46 k0_pay1) z (ix3 0 r ⟨128 * j + l, by omega⟩) =
      Ideal.div (Scalar.select (k0_pay1 (ix2 0 l)) (b (ix2 (row j r) l)) (d (ix2 (row j r) l)))
        (Scalar.select (k0_pay1 (ix2 0 (other l))) (d (ix2 (row j r) (other l))) (b (ix2 (row j r) (other l)))
          + Scalar.select (k0_pay1 (ix2 0 l)) (a (ix2 (row j r) 0)) (c (ix2 (row j r) 0)))
        * (z (ix3 0 r ⟨128 * j + l, by omega⟩) * Ideal.logistic (z (ix3 0 r ⟨128 * j + l, by omega⟩))) := by
  rw [pay3_eq, ← quot_apply a c b d (row j r) l, ← cols_apply (quot a c b d) j r l]
  generalize cols (quot a c b d) = w
  pointwise []

theorem pay3_low (a c : FVec Ideal S512x1 .f32) (b d : FVec Ideal S512x128 .f32) (z : Vec Ideal S1x128x512 .bf16)
    (j : Fin 4) (r : Fin 128) (l : Fin 64) (n : Fin 512) (hn : (n : ℕ) = 128 * j + l) :
    k0_pay3 (F := Ideal) a b c d (k0_pay46 k0_pay1) z (ix3 0 r n) =
      Ideal.div (b (ix2 (row j r) (lo l))) (b (ix2 (row j r) (up l)) + a (ix2 (row j r) 0))
        * (z (ix3 0 r n) * Ideal.logistic (z (ix3 0 r n))) := by
  have e : n = ⟨128 * j + (lo l : ℕ), by have := j.isLt; have := l.isLt; show 128 * (j : ℕ) + (l : ℕ) < 512; omega⟩ := Fin.ext hn
  have o : other (lo l) = up l := Fin.ext (by have := l.isLt; show ((l : ℕ) + 64) % 128 = l + 64; omega)
  rw [e, pay3_apply, o, select_low, select_low, select_low_up]

theorem pay3_high (a c : FVec Ideal S512x1 .f32) (b d : FVec Ideal S512x128 .f32) (z : Vec Ideal S1x128x512 .bf16)
    (j : Fin 4) (r : Fin 128) (l : Fin 64) (n : Fin 512) (hn : (n : ℕ) = 128 * j + (l + 64)) :
    k0_pay3 (F := Ideal) a b c d (k0_pay46 k0_pay1) z (ix3 0 r n) =
      Ideal.div (d (ix2 (row j r) (up l))) (d (ix2 (row j r) (lo l)) + c (ix2 (row j r) 0))
        * (z (ix3 0 r n) * Ideal.logistic (z (ix3 0 r n))) := by
  have e : n = ⟨128 * j + (up l : ℕ), by have := j.isLt; have := l.isLt; show 128 * (j : ℕ) + ((l : ℕ) + 64) < 512; omega⟩ := Fin.ext hn
  have o : other (up l) = lo l := Fin.ext (by have := l.isLt; show ((l : ℕ) + 64 + 64) % 128 = l; omega)
  rw [e, pay3_apply, o, select_low_up, select_low_up, select_low]

/-- Lane `d` of key head `g`. -/
abbrev lane (g : Fin 2) (d : Fin 64) : Fin 128 := ⟨64 * g + d, by omega⟩

theorem sum_low (f : Fin 128 → EReal) : ∑ l, Scalar.select (k0_pay1 (ix2 0 l)) (f l) 0 = ∑ d : Fin 64, f (lane 0 d) := by
  rw [show (∑ l : Fin 128, Scalar.select (k0_pay1 (ix2 0 l)) (f l) 0)
    = ∑ l : Fin (64 + 64), Scalar.select (k0_pay1 (ix2 0 (l : Fin 128))) (f l) 0 from rfl, Fin.sum_univ_add]
  rw [Finset.sum_eq_zero (s := Finset.univ) (f := fun i : Fin 64 => Scalar.select (k0_pay1 (ix2 0 (Fin.natAdd 64 i : Fin 128))) (f (Fin.natAdd 64 i)) 0), add_zero]
  · refine Finset.sum_congr rfl fun d _ => ?_
    have e : (Fin.castAdd 64 d : Fin 128) = lo d := rfl
    rw [e, select_low]
    exact congrArg f (Fin.ext (by show (d : ℕ) = 64 * 0 + d; omega))
  · intro d _
    have e : (Fin.natAdd 64 d : Fin 128) = up d := Fin.ext (by show 64 + (d : ℕ) = d + 64; omega)
    rw [e, select_low_up]

theorem sum_high (f : Fin 128 → EReal) : ∑ l, Scalar.select (k0_pay2 (ix2 0 l)) (f l) 0 = ∑ d : Fin 64, f (lane 1 d) := by
  rw [show (∑ l : Fin 128, Scalar.select (k0_pay2 (ix2 0 l)) (f l) 0)
    = ∑ l : Fin (64 + 64), Scalar.select (k0_pay2 (ix2 0 (l : Fin 128))) (f l) 0 from rfl, Fin.sum_univ_add]
  rw [Finset.sum_eq_zero (s := Finset.univ) (f := fun i : Fin 64 => Scalar.select (k0_pay2 (ix2 0 (Fin.castAdd 64 i : Fin 128))) (f (Fin.castAdd 64 i)) 0), zero_add]
  · refine Finset.sum_congr rfl fun d _ => ?_
    have e : (Fin.natAdd 64 d : Fin 128) = up d := Fin.ext (by show 64 + (d : ℕ) = d + 64; omega)
    rw [e, select_high_up]
    exact congrArg f (Fin.ext (by show (d : ℕ) + 64 = 64 * 1 + d; omega))
  · intro d _
    have e : (Fin.castAdd 64 d : Fin 128) = lo d := rfl
    rw [e, select_high]

/-- One head's attention over 384 keys at scores `s` in base two, sink `k` and values `v`. -/
def attend (s : Fin 384 → EReal) (k : EReal) (v : Fin 384 → EReal) : EReal :=
  Ideal.div (∑ c, Ideal.exp2 (s c - top s k) * v c)
    (∑ c, Ideal.exp2 (s c - top s k) * 1 + Ideal.exp2 (k * cl - top s k))

/-- One head's score against a key of the block. -/
def score (g : Fin 2) (j : Fin 4) (q : Vec Ideal S1x128x512 .bf16) (k : Vec Ideal S1x384x128 .bf16)
    (b : Vec Ideal S1x1x512x384 .f32) (r : Fin 128) (c : Fin 384) : EReal :=
  (∑ d : Fin 64, q (ix3 0 r ⟨128 * j + (64 * g + d), by omega⟩) * k (ix3 0 c (lane g d))) * cq
    + b (ix4 0 0 (row j r) c) * cl

theorem stored_apply (sink : Fin 2 → Fin 4 → EReal) (q : Vec Ideal S1x128x512 .bf16) (k v : Vec Ideal S1x384x128 .bf16)
    (z : Vec Ideal S1x128x512 .bf16) (b : Fin 2 → Vec Ideal S1x1x512x384 .f32) (g : Fin 2) (j : Fin 4) (r : Fin 128) (d : Fin 64)
    (n : Fin 512) (hn : (n : ℕ) = 128 * j + (64 * g + d)) :
    stored sink q k v z (b 0) (b 1) (ix3 0 r n) =
      attend (fun c => score g j q k (b g) r c) (sink g j) (fun c => v (ix3 0 c (lane g d)))
        * (z (ix3 0 r n) * Ideal.logistic (z (ix3 0 r n))) := by
  have hg := g.isLt
  unfold stored
  obtain rfl | rfl : g = 0 ∨ g = 1 := by
    rcases (by omega : (g : ℕ) = 0 ∨ (g : ℕ) = 1) with h | h
    · exact .inl (Fin.ext h)
    · exact .inr (Fin.ext h)
  · rw [pay3_low _ _ _ _ _ j r d n (by rw [hn]; show 128 * (j : ℕ) + (64 * 0 + d) = 128 * j + d; omega)]
    simp only [sums_apply, sinks_apply, scores_apply, select_low, select_low_up, sum_low]
    rw [show lo d = lane 0 d from Fin.ext (by show (d : ℕ) = 64 * 0 + d; omega)]
    rfl
  · rw [pay3_high _ _ _ _ _ j r d n (by rw [hn]; show 128 * (j : ℕ) + (64 * 1 + d) = 128 * j + (d + 64); omega)]
    simp only [sums_apply, sinks_apply, scores_apply, select_high, select_high_up, sum_high]
    rw [show up d = lane 1 d from Fin.ext (by show (d : ℕ) + 64 = 64 * 1 + d; omega)]
    rfl

end Cert.SwIdeal.Whole
end
-- ==== Proof.SwHost.lean ====
module

public import proofs.«01_k».proof.Proof.SwBlock

@[expose] public section

set_option maxRecDepth 16384

noncomputable section

open Idealize.ShloMosaic Idealize.ShloMosaic.TcCoe Idealize.SL.Sem
open Idealize.ShloMosaic.Pipeline (Dat)

namespace Cert.SwIdeal.Whole

open Cert.SwIdeal Cert.SwIdeal.Gen

variable (m : (ℓ : Loc nD τ sig) → Buf (Elt Ideal) ℓ)

theorem loopTrips : k0_t1_loop.trips = 16 := by decide +kernel

/-- The block each window stages at a grid point, from the point's number: 4 row blocks to a batch. -/
theorem blockAt : ∀ t : Fin cfg0.N, win0_0.index t = ![0]
    ∧ win0_1.index t = ![t.val / 4, t.val % 4, 8]
    ∧ win0_2.index t = ![t.val / 4, 0, 40]
    ∧ win0_3.index t = ![t.val / 4, 0, 41]
    ∧ win0_4.index t = ![t.val / 4, t.val % 4, 9]
    ∧ win0_5.index t = ![0, 0, 0, 0]
    ∧ win0_6.index t = ![t.val / 4, t.val % 4, 0]
    ∧ (grid0.coords t 1).val = t.val % 4 ∧ t.val < 32 :=
  (by decide +kernel : ∀ t : Fin grid0.N, _)

/-- The columns of the projection up to the last gate head but one, in the order the kernel's windows read them: a query
head, or a gate head, of key head 0 beside the one of key head 1. -/
def pieces (x : FVec Ideal S8x8192x5376 .f32) : List ((s : Shape) × (s.Idx → EReal)) :=
  [⟨S8x8192x2048, extractStridedSlice S8x8192x2048 ![0, 0, 3328] x slices_S8x8192x5376_S8x8192x2048_0_0_3328⟩,
    ⟨S8x8192x2112, extractStridedSlice S8x8192x2112 ![0, 0, 0] x slices_S8x8192x5376_S8x8192x2112_0_0_0⟩,
    ⟨S8x8192x64, extractStridedSlice S8x8192x64 ![0, 0, 2304] x slices_S8x8192x5376_S8x8192x64_0_0_2304⟩,
    ⟨S8x8192x64, extractStridedSlice S8x8192x64 ![0, 0, 2112] x slices_S8x8192x5376_S8x8192x64_0_0_2112⟩,
    ⟨S8x8192x64, extractStridedSlice S8x8192x64 ![0, 0, 2368] x slices_S8x8192x5376_S8x8192x64_0_0_2368⟩,
    ⟨S8x8192x64, extractStridedSlice S8x8192x64 ![0, 0, 2176] x slices_S8x8192x5376_S8x8192x64_0_0_2176⟩,
    ⟨S8x8192x64, extractStridedSlice S8x8192x64 ![0, 0, 2432] x slices_S8x8192x5376_S8x8192x64_0_0_2432⟩,
    ⟨S8x8192x64, extractStridedSlice S8x8192x64 ![0, 0, 2240] x slices_S8x8192x5376_S8x8192x64_0_0_2240⟩,
    ⟨S8x8192x64, extractStridedSlice S8x8192x64 ![0, 0, 2496] x slices_S8x8192x5376_S8x8192x64_0_0_2496⟩,
    ⟨S8x8192x64, extractStridedSlice S8x8192x64 ![0, 0, 2816] x slices_S8x8192x5376_S8x8192x64_0_0_2816⟩,
    ⟨S8x8192x64, extractStridedSlice S8x8192x64 ![0, 0, 3072] x slices_S8x8192x5376_S8x8192x64_0_0_3072⟩,
    ⟨S8x8192x64, extractStridedSlice S8x8192x64 ![0, 0, 2880] x slices_S8x8192x5376_S8x8192x64_0_0_2880⟩,
    ⟨S8x8192x64, extractStridedSlice S8x8192x64 ![0, 0, 3136] x slices_S8x8192x5376_S8x8192x64_0_0_3136⟩,
    ⟨S8x8192x64, extractStridedSlice S8x8192x64 ![0, 0, 2944] x slices_S8x8192x5376_S8x8192x64_0_0_2944⟩,
    ⟨S8x8192x64, extractStridedSlice S8x8192x64 ![0, 0, 3200] x slices_S8x8192x5376_S8x8192x64_0_0_3200⟩,
    ⟨S8x8192x64, extractStridedSlice S8x8192x64 ![0, 0, 3008] x slices_S8x8192x5376_S8x8192x64_0_0_3008⟩]

/-- The columns after those: the last gate head, the keys and the values. -/
def back (x : FVec Ideal S8x8192x5376 .f32) : FVec Ideal S8x8192x320 .f32 :=
  concatenate S8x8192x320 2 [⟨S8x8192x64, extractStridedSlice S8x8192x64 ![0, 0, 3264] x slices_S8x8192x5376_S8x8192x64_0_0_3264⟩,
    ⟨S8x8192x256, extractStridedSlice S8x8192x256 ![0, 0, 2560] x slices_S8x8192x5376_S8x8192x256_0_0_2560⟩] concatenates_S8x8192x64_S8x8192x256_S8x8192x320_d2

def front (x : FVec Ideal S8x8192x5376 .f32) : FVec Ideal S8x8192x5056 .f32 :=
  concatenate S8x8192x5056 2 (pieces x) concatenates_S8x8192x2048_S8x8192x2112_S8x8192x64_S8x8192x64_S8x8192x64_S8x8192x64_S8x8192x64_S8x8192x64_S8x8192x64_S8x8192x64_S8x8192x64_S8x8192x64_S8x8192x64_S8x8192x64_S8x8192x64_S8x8192x64_S8x8192x5056_d2

/-- The projection's columns as the kernel's windows read them. -/
def perm (x : FVec Ideal S8x8192x5376 .f32) : FVec Ideal S8x8192x5376 .bf16 :=
  truncf .bf16 (concatenate S8x8192x5376 2 [⟨S8x8192x5056, front x⟩, ⟨S8x8192x320, back x⟩]
    concatenates_S8x8192x5056_S8x8192x320_S8x8192x5376_d2) bitsLt_bf16_f32

theorem perm_front (x : FVec Ideal S8x8192x5376 .f32) (b : Fin 8) (s : Fin 8192) (n : Fin 5376) (h : (n : ℕ) < 5056) :
    perm x (ix3 b s n) = front x (ix3 b s ⟨n, h⟩) := by
  pointwise [perm]
  rw [dif_pos h]

theorem perm_back (x : FVec Ideal S8x8192x5376 .f32) (b : Fin 8) (s : Fin 8192) (n : Fin 5376) (h : ¬ (n : ℕ) < 5056) :
    perm x (ix3 b s n) = back x (ix3 b s ⟨n - 5056, by omega⟩) := by
  pointwise [perm]
  rw [dif_neg h]

theorem off_axis (b : Fin 8) (s : Fin 8192) (n : Fin 5056) (d : Fin 64) : ∀ e : Fin S8x8192x64.rank,
    e.cast (rfl : S8x8192x64.rank = S8x8192x5056.rank) ≠ 2 → (ix3 b s d e).val = (ix3 b s n (e.cast rfl)).val := fun e he =>
  match e, he with | ⟨0, _⟩, _ => rfl | ⟨1, _⟩, _ => rfl | ⟨2, _⟩, he => absurd rfl he

/-- The extents of the pieces. -/
def shapes : List Shape :=
  [S8x8192x2048, S8x8192x2112, S8x8192x64, S8x8192x64, S8x8192x64, S8x8192x64, S8x8192x64, S8x8192x64, S8x8192x64,
    S8x8192x64, S8x8192x64, S8x8192x64, S8x8192x64, S8x8192x64, S8x8192x64, S8x8192x64]

theorem shapes_eq (x : FVec Ideal S8x8192x5376 .f32) : (pieces x).map (·.1) = shapes := rfl

theorem at_column (x : FVec Ideal S8x8192x5376 .f32) (b : Fin 8) (s : Fin 8192) {i j : ℕ} (e : i = j) (hi : i < 5376)
    (hj : j < 5376) : x (ix3 b s ⟨i, hi⟩) = x (ix3 b s ⟨j, hj⟩) := by
  subst e; rfl

/-- A head among the columns before the last gate head. -/
theorem head (x : FVec Ideal S8x8192x5376 .f32) (b : Fin 8) (s : Fin 8192) (d : Fin 64) (n : Fin 5376) (k : ℕ)
    (hk : k < (pieces x).length) (y : S8x8192x64.Idx → EReal) (hy : (pieces x)[k] = ⟨S8x8192x64, y⟩) (pre : ℕ)
    (hpre : ((shapes.take k).map fun s => if h : s.rank = S8x8192x5056.rank then
      s.size ((2 : Fin S8x8192x5056.rank).cast h.symm) else 0).sum = pre) (hn : (n : ℕ) = pre + d) (hp : pre + 64 ≤ 5056) :
    perm x (ix3 b s n) = y (ix3 b s d) :=
  (perm_front x b s n (by omega)).trans
    (concatenate_apply_piece (t := S8x8192x5056) 2 (pieces x) concatenates_S8x8192x2048_S8x8192x2112_S8x8192x64_S8x8192x64_S8x8192x64_S8x8192x64_S8x8192x64_S8x8192x64_S8x8192x64_S8x8192x64_S8x8192x64_S8x8192x64_S8x8192x64_S8x8192x64_S8x8192x64_S8x8192x64_S8x8192x5056_d2 (ix3 b s ⟨n, by omega⟩) k hk S8x8192x64 y hy rfl
      pre (by rw [List.map_take, shapes_eq]; exact hpre) (ix3 b s d) (off_axis b s _ d) hn.symm)

/-- The keys' bias relative to the block of queries, in the three places a block can have in the sequence. -/
def offset : IVec S3x2x4x128x384 32 :=
  subi (subi (iotaInDim S3x2x4x128x384 32 4) (muli (iotaInDim S3x2x4x128x384 32 0)
    (broadcastInDim S3x2x4x128x384 ![] bcast_S_S3x2x4x128x384 (constantI S_ 32 128#32)))) (iotaInDim S3x2x4x128x384 32 3)

def bias5 : FVec Ideal S3x2x4x128x384 .f32 :=
  select (cmpi .sle (absi offset) (broadcastInDim S3x2x4x128x384 ![] bcast_S_S3x2x4x128x384 (constantI S_ 32 128#32)))
    (Host.negf (mulf (broadcastInDim S3x2x4x128x384 ![0, 1, 2, 3, 4] bcast_S1x2x4x1x1_S3x2x4x128x384_0_1_2_3_4
        (shapeCast S1x2x4x1x1 (fun i => FloatOps.ofBits (F := Ideal) .f32 (lit0 (S8.rowMajor i))) shapeCasts_S8_S1x2x4x1x1))
      (sitofp .f32 (absi offset))))
    (broadcastInDim S3x2x4x128x384 ![] bcast_S_S3x2x4x128x384 (constant S_ .f32 0xFF800000#32))

set_option maxHeartbeats 4000000 in
theorem entry_perm (c : Dev nD) : (V m c main_v21 : FVec Ideal S8x8192x5376 .bf16)
    = perm (m ((c : Thread nD τ).loc main_arg1)) := by
  simp only [V, hostOps0, hostOps0_1, hostOps0_2, List.flatten_cons, List.flatten_nil, List.append_nil, List.cons_append, List.nil_append]
  after_results
  rfl

set_option maxHeartbeats 4000000 in
theorem entry_bias (c : Dev nD) : (V m c main_v38 : FVec Ideal S3x2x512x384 .f32)
    = shapeCast S3x2x512x384 bias5 shapeCasts_S3x2x4x128x384_S3x2x512x384 := by
  simp only [V, hostOps0, hostOps0_1, hostOps0_2, List.flatten_cons, List.flatten_nil, List.append_nil, List.cons_append, List.nil_append]
  entry_read
  rfl

set_option maxHeartbeats 1600000 in
theorem perm_query (x : FVec Ideal S8x8192x5376 .f32) (b : Fin 8) (s : Fin 8192) (g : Fin 2) (j : Fin 4) (d : Fin 64)
    (n : Fin 5376) (hn : (n : ℕ) = 4096 + (128 * j + (64 * g + d))) :
    perm x (ix3 b s n) = x (ix3 b s ⟨2048 + (64 * (4 * g + j) + d), by omega⟩) := by
  fin_cases g <;> fin_cases j <;> simp at hn
  · rw [perm_front x b s n (by omega)]
    refine (concatenate_apply_piece (t := S8x8192x5056) 2 (pieces x) concatenates_S8x8192x2048_S8x8192x2112_S8x8192x64_S8x8192x64_S8x8192x64_S8x8192x64_S8x8192x64_S8x8192x64_S8x8192x64_S8x8192x64_S8x8192x64_S8x8192x64_S8x8192x64_S8x8192x64_S8x8192x64_S8x8192x64_S8x8192x5056_d2 _ 1 (show 1 < 16 by decide) S8x8192x2112 _ rfl rfl
      2048 rfl (ix3 b s ⟨2048 + d, by omega⟩) ?_ ?_).trans ?_
    · intro e he
      match e, he with | ⟨0, _⟩, _ => rfl | ⟨1, _⟩, _ => rfl | ⟨2, _⟩, he => exact absurd rfl he
    · show 2048 + (2048 + (d : ℕ)) = n
      omega
    · pointwise
  · refine (head x b s d n 3 (show 3 < 16 by decide) _ rfl 4224 (by decide +kernel) (by omega) (by decide)).trans ?_
    pointwise
    exact at_column x b s (by omega) _ _
  · refine (head x b s d n 5 (show 5 < 16 by decide) _ rfl 4352 (by decide +kernel) (by omega) (by decide)).trans ?_
    pointwise
    exact at_column x b s (by omega) _ _
  · refine (head x b s d n 7 (show 7 < 16 by decide) _ rfl 4480 (by decide +kernel) (by omega) (by decide)).trans ?_
    pointwise
    exact at_column x b s (by omega) _ _
  · refine (head x b s d n 2 (show 2 < 16 by decide) _ rfl 4160 (by decide +kernel) (by omega) (by decide)).trans ?_
    pointwise
    exact at_column x b s (by omega) _ _
  · refine (head x b s d n 4 (show 4 < 16 by decide) _ rfl 4288 (by decide +kernel) (by omega) (by decide)).trans ?_
    pointwise
    exact at_column x b s (by omega) _ _
  · refine (head x b s d n 6 (show 6 < 16 by decide) _ rfl 4416 (by decide +kernel) (by omega) (by decide)).trans ?_
    pointwise
    exact at_column x b s (by omega) _ _
  · refine (head x b s d n 8 (show 8 < 16 by decide) _ rfl 4544 (by decide +kernel) (by omega) (by decide)).trans ?_
    pointwise
    exact at_column x b s (by omega) _ _

set_option maxHeartbeats 1600000 in
theorem perm_gate (x : FVec Ideal S8x8192x5376 .f32) (b : Fin 8) (s : Fin 8192) (g : Fin 2) (j : Fin 4) (d : Fin 64)
    (n : Fin 5376) (hn : (n : ℕ) = 4608 + (128 * j + (64 * g + d))) :
    perm x (ix3 b s n) = x (ix3 b s ⟨2816 + (64 * (4 * g + j) + d), by omega⟩) := by
  fin_cases g <;> fin_cases j <;> simp at hn
  · refine (head x b s d n 9 (show 9 < 16 by decide) _ rfl 4608 (by decide +kernel) (by omega) (by decide)).trans ?_
    pointwise
  · refine (head x b s d n 11 (show 11 < 16 by decide) _ rfl 4736 (by decide +kernel) (by omega) (by decide)).trans ?_
    pointwise
    exact at_column x b s (by omega) _ _
  · refine (head x b s d n 13 (show 13 < 16 by decide) _ rfl 4864 (by decide +kernel) (by omega) (by decide)).trans ?_
    pointwise
    exact at_column x b s (by omega) _ _
  · refine (head x b s d n 15 (show 15 < 16 by decide) _ rfl 4992 (by decide +kernel) (by omega) (by decide)).trans ?_
    pointwise
    exact at_column x b s (by omega) _ _
  · refine (head x b s d n 10 (show 10 < 16 by decide) _ rfl 4672 (by decide +kernel) (by omega) (by decide)).trans ?_
    pointwise
    exact at_column x b s (by omega) _ _
  · refine (head x b s d n 12 (show 12 < 16 by decide) _ rfl 4800 (by decide +kernel) (by omega) (by decide)).trans ?_
    pointwise
    exact at_column x b s (by omega) _ _
  · refine (head x b s d n 14 (show 14 < 16 by decide) _ rfl 4928 (by decide +kernel) (by omega) (by decide)).trans ?_
    pointwise
    exact at_column x b s (by omega) _ _
  · rw [perm_back x b s n (by omega)]
    pointwise [back]
    rw [dif_pos (by omega)]
    exact at_column x b s (by omega) _ _

theorem perm_key (x : FVec Ideal S8x8192x5376 .f32) (b : Fin 8) (s : Fin 8192) (l : Fin 128)
    (n : Fin 5376) (hn : (n : ℕ) = 5120 + l) :
    perm x (ix3 b s n) = x (ix3 b s ⟨2560 + l, by omega⟩) := by
  rw [perm_back x b s n (by omega)]
  pointwise [back]
  rw [dif_neg (show ¬ (n : ℕ) - 5056 < 64 by rw [hn]; omega)]
  exact at_column x b s (by omega) _ _

theorem perm_value (x : FVec Ideal S8x8192x5376 .f32) (b : Fin 8) (s : Fin 8192) (l : Fin 128)
    (n : Fin 5376) (hn : (n : ℕ) = 5248 + l) :
    perm x (ix3 b s n) = x (ix3 b s ⟨2688 + l, by omega⟩) := by
  rw [perm_back x b s n (by omega)]
  pointwise [back]
  rw [dif_neg (show ¬ (n : ℕ) - 5056 < 64 by rw [hn]; omega)]
  exact at_column x b s (by omega) _ _

/-- The slope of a query head. -/
def slope (g : Fin 2) (j : Fin 4) : EReal := Ideal.ofBits .f32 (lit0 (S8.rowMajor (ix1 ⟨g * 4 + j, by omega⟩)))

/-- The bias of a query head at a signed distance: minus the slope times the distance, or minus infinity past the window. -/
def tilt (h : EReal) (d : BitVec 32) : EReal :=
  Scalar.select (IntOp.cmpi .sle (IntOp.absi d) 128#32) (-(h * FloatOps.sitofp (F := Ideal) .f32 (IntOp.absi d))) ⊥

theorem bits_bot : Ideal.ofBits .f32 4286578688#32 = ⊥ := by
  simp [Ideal.ofBits, Ideal.ieee]

theorem bias_apply (v : Fin 3) (g : Fin 2) (j : Fin 4) (r : Fin 128) (e : Fin 384) :
    shapeCast S3x2x512x384 bias5 shapeCasts_S3x2x4x128x384_S3x2x512x384 (ix4 v g (row j r) e) =
      tilt (slope g j) (BitVec.ofNat 32 e - BitVec.ofNat 32 v * 128#32 - BitVec.ofNat 32 r) := by
  pointwise [row, bias5, offset]
  rw [bits_bot]
  rfl

end Cert.SwIdeal.Whole
end
-- ==== Proof.SwArr.lean ====
module

public import proofs.«01_k».proof.Proof.SwHost

@[expose] public section

set_option maxRecDepth 16384

noncomputable section

open Idealize.ShloMosaic Idealize.ShloMosaic.TcCoe Idealize.SL.Sem
open Idealize.ShloMosaic.Pipeline (Dat)

namespace Cert.SwIdeal.Whole

open Cert.SwIdeal Cert.SwIdeal.Gen

variable (m : (ℓ : Loc nD τ sig) → Buf (Elt Ideal) ℓ)

/-- The first key a block of queries reads. -/
def start (n : ℕ) : ℕ := min 7808 (128 * (n - 1))

/-- Which of the three places in the sequence a block of queries has. -/
def place (n : ℕ) : Fin 3 := if n = 0 then 0 else if n = 63 then 2 else 1

theorem off1_eq : ∀ k : Fin k0_t1_loop.trips, k0_off1 k = ![0, 128 * k.val, 0] := by decide +kernel

theorem off2_eq : ∀ (t : Fin grid0.N) (k : Fin k0_t1_loop.trips),
    k0_off2 (grid0.coords t) k = ![0, start (16 * (t.val % 4) + k.val), 0] := by decide +kernel

theorem off3_eq : ∀ (t : Fin grid0.N) (k : Fin k0_t1_loop.trips),
    k0_off3 (grid0.coords t) k = ![(place (16 * (t.val % 4) + k.val)).val, 0, 0, 0] := by decide +kernel

theorem off4_eq : ∀ (t : Fin grid0.N) (k : Fin k0_t1_loop.trips),
    k0_off4 (grid0.coords t) k = ![(place (16 * (t.val % 4) + k.val)).val, 1, 0, 0] := by decide +kernel

theorem off1_1 (k : Fin k0_t1_loop.trips) : k0_off1 k 1 = 128 * k.val := by rw [off1_eq]; rfl
theorem off1_2 (k : Fin k0_t1_loop.trips) : k0_off1 k 2 = 0 := by rw [off1_eq]; rfl
theorem off2_1 (t : Fin grid0.N) (k : Fin k0_t1_loop.trips) :
    k0_off2 (grid0.coords t) k 1 = start (16 * (t.val % 4) + k.val) := by rw [off2_eq]; rfl
theorem off2_2 (t : Fin grid0.N) (k : Fin k0_t1_loop.trips) : k0_off2 (grid0.coords t) k 2 = 0 := by rw [off2_eq]; rfl

/-- What trip `k` stores, from the blocks. -/
def tripVal (i : grid0.Coords) (x0 : Vec Ideal S8 .f32) (x1 : Vec Ideal S1x2048x512 .bf16) (x2 : Vec Ideal S1x8192x128 .bf16)
    (x3 : Vec Ideal S1x8192x128 .bf16) (x4 : Vec Ideal S1x2048x512 .bf16) (x5 : Vec Ideal S3x2x512x384 .f32)
    (k : Fin k0_t1_loop.trips) : FVec Ideal S1x128x512 .bf16 :=
  stored (fun g j => x0 (ix1 ⟨4 * g + j, by omega⟩))
    (fun y => x1 ((Rect.unit (s := S1x2048x512) (k0_off1 k) S1x128x512.size (k0_off1_inb k)).toLoadRect.idx y))
    (fun y => x2 ((Rect.unit (s := S1x8192x128) (k0_off2 i k) S1x384x128.size (k0_off2_inb i k)).toLoadRect.idx y))
    (fun y => x3 ((Rect.unit (s := S1x8192x128) (k0_off2 i k) S1x384x128.size (k0_off2_inb i k)).toLoadRect.idx y))
    (fun y => x4 ((Rect.unit (s := S1x2048x512) (k0_off1 k) S1x128x512.size (k0_off1_inb k)).toLoadRect.idx y))
    (fun y => x5 ((Rect.unit (s := S3x2x512x384) (k0_off3 i k) S1x1x512x384.size (k0_off3_inb i k)).toLoadRect.idx y))
    (fun y => x5 ((Rect.unit (s := S3x2x512x384) (k0_off4 i k) S1x1x512x384.size (k0_off4_inb i k)).toLoadRect.idx y))

theorem pieces_of (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x2048x512 .bf16) (harg6 : arg6.IsWhole) (arg7 : Memref sig .tc .vmem S3x2x512x384 .f32) (harg7 : arg7.IsWhole) (arg8 : Memref sig .tc .vmem S1x2048x512 .bf16) (harg8 : arg8.IsWhole) (arg1 : BitVec 32)
    (x0 : Vec Ideal S8 .f32) (x1 : Vec Ideal S1x2048x512 .bf16) (x2 : Vec Ideal S1x8192x128 .bf16) (x3 : Vec Ideal S1x8192x128 .bf16) (x4 : Vec Ideal S1x2048x512 .bf16) (x5 : Vec Ideal S3x2x512x384 .f32)
    (n : ℕ) (hn : n ≤ k0_t1_loop.trips) :
    ∀ pc ∈ pb_k0_t1 (F := Ideal) Variants.none c none i arg2 harg2 arg3 harg3 arg4 harg4 arg5 harg5 arg6 harg6 arg7 harg7 arg8 harg8 arg1
      (harg2.unread x0) (harg3.unread x1) (harg4.unread x2) (harg5.unread x3) (harg6.unread x4) (harg7.unread x5) n,
      ∃ k, pc = ⟨Rect.unit (s := S1x2048x512) (k0_off1 k) S1x128x512.size (k0_off1_inb k), tripVal i x0 x1 x2 x3 x4 x5 k⟩ := by
  induction n with
  | zero => intro pc h; exact absurd h (by rw [pb_k0_t1.eq_1]; exact List.not_mem_nil)
  | succ n ih =>
    intro pc h
    rw [pb_k0_t1_succ (F := Ideal) Variants.none c none i arg2 harg2 arg3 harg3 arg4 harg4 arg5 harg5 arg6 harg6 arg7 harg7 arg8 harg8 arg1 _ _ _ _ _ _ ⟨n, hn⟩, trip] at h
    rcases List.mem_append.mp h with h | h
    · exact ⟨⟨n, hn⟩, List.mem_singleton.mp h⟩
    · exact ih (by omega) pc h

theorem out_apply (c : Dev nD) (i : grid0.Coords) (arg2 : Memref sig .tc .smem S8 .f32) (harg2 : arg2.IsWhole) (arg3 : Memref sig .tc .vmem S1x2048x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x2048x512 .bf16) (harg6 : arg6.IsWhole) (arg7 : Memref sig .tc .vmem S3x2x512x384 .f32) (harg7 : arg7.IsWhole) (arg8 : Memref sig .tc .vmem S1x2048x512 .bf16) (harg8 : arg8.IsWhole)
    (x0 : Vec Ideal S8 .f32) (x1 : Vec Ideal S1x2048x512 .bf16) (x2 : Vec Ideal S1x8192x128 .bf16) (x3 : Vec Ideal S1x8192x128 .bf16) (x4 : Vec Ideal S1x2048x512 .bf16) (x5 : Vec Ideal S3x2x512x384 .f32)
    (y : S1x2048x512.Idx) (k : Fin k0_t1_loop.trips) (r : Fin 128) (hy : (y 1 : ℕ) = 128 * k + r) :
    out0_A_6 (F := Ideal) c i arg2 harg2 arg3 harg3 arg4 harg4 arg5 harg5 arg6 harg6 arg7 harg7 arg8 harg8 x0 x1 x2 x3 x4 x5 y = tripVal i x0 x1 x2 x3 x4 x5 k (ix3 0 r (y 2)) := by
  have hk : ∀ y : S1x2048x512.Idx, (y 1 : ℕ) / 128 < k0_t1_loop.trips := fun y => by
    rw [loopTrips]; have : (y 1 : ℕ) < 2048 := (y 1).isLt; omega
  have key : out0_A_6 (F := Ideal) c i arg2 harg2 arg3 harg3 arg4 harg4 arg5 harg5 arg6 harg6 arg7 harg7 arg8 harg8 x0 x1 x2 x3 x4 x5 y
      = tripVal i x0 x1 x2 x3 x4 x5 ⟨(y 1 : ℕ) / 128, hk y⟩ (ix3 0 ⟨(y 1 : ℕ) % 128, Nat.mod_lt _ (by decide)⟩ (y 2)) := by
    unfold out0_A_6
    rw [View.read_writes_junk_eq_canon]
    refine View.canon_apply_of_pieces (fun y => tripVal i x0 x1 x2 x3 x4 x5 ⟨(y 1 : ℕ) / 128, hk y⟩
      (ix3 0 ⟨(y 1 : ℕ) % 128, Nat.mod_lt _ (by decide)⟩ (y 2))) _ ?_ y
      (cover0_A_6 c i arg2 harg2 arg3 harg3 arg4 harg4 arg5 harg5 arg6 harg6 arg7 harg7 arg8 harg8 x0 x1 x2 x3 x4 x5 y)
    intro pc hpc x
    obtain ⟨k, rfl⟩ := pieces_of c i arg2 harg2 arg3 harg3 arg4 harg4 arg5 harg5 arg6 harg6 arg7 harg7 arg8 harg8 _ x0 x1 x2 x3 x4 x5 k0_t1_loop.trips le_rfl pc hpc
    have h1 : (((Rect.unit (s := S1x2048x512) (k0_off1 k) S1x128x512.size (k0_off1_inb k)).emb x 1 : Fin _) : ℕ) = 128 * k + (x 1 : ℕ) := by
      show k0_off1 k 1 + 1 * (x 1 : ℕ) = _
      rw [off1_1 k, one_mul]
    have h2 : (Rect.unit (s := S1x2048x512) (k0_off1 k) S1x128x512.size (k0_off1_inb k)).emb x 2 = x 2 := by
      apply Fin.ext
      show k0_off1 k 2 + 1 * (x 2 : ℕ) = _
      exact (congrArg (· + 1 * (x 2 : ℕ)) (off1_2 k)).trans (by rw [one_mul]; exact Nat.zero_add _)
    have hx1 : (x 1 : ℕ) < 128 := (x 1).isLt
    have hx0 : (x 0 : ℕ) < 1 := (x 0).isLt
    show tripVal i x0 x1 x2 x3 x4 x5 k x = tripVal i x0 x1 x2 x3 x4 x5 ⟨_, _⟩ (ix3 0 ⟨_, _⟩ _)
    have e1 : (⟨(((Rect.unit (s := S1x2048x512) (k0_off1 k) S1x128x512.size (k0_off1_inb k)).emb x 1 : Fin _) : ℕ) / 128, hk _⟩ : Fin k0_t1_loop.trips) = k :=
      Fin.ext (by show (((Rect.unit (s := S1x2048x512) (k0_off1 k) S1x128x512.size (k0_off1_inb k)).emb x 1 : Fin _) : ℕ) / 128 = k; rw [h1]; omega)
    have e2 : (⟨(((Rect.unit (s := S1x2048x512) (k0_off1 k) S1x128x512.size (k0_off1_inb k)).emb x 1 : Fin _) : ℕ) % 128, Nat.mod_lt _ (by decide)⟩ : Fin 128) = x 1 :=
      Fin.ext (by show (((Rect.unit (s := S1x2048x512) (k0_off1 k) S1x128x512.size (k0_off1_inb k)).emb x 1 : Fin _) : ℕ) % 128 = (x 1 : ℕ); rw [h1]; omega)
    refine (congrArg (tripVal i x0 x1 x2 x3 x4 x5 k) ?_).trans (congrArg₂ (fun a b => tripVal i x0 x1 x2 x3 x4 x5 a b) e1.symm
      (congrArg₂ (fun a b => (ix3 0 a b : S1x128x512.Idx)) e2.symm h2.symm))
    funext a
    match a with
    | ⟨0, _⟩ => exact Fin.ext (by show (x 0 : ℕ) = 0; omega)
    | ⟨1, _⟩ => rfl
    | ⟨2, _⟩ => rfl
  rw [key]
  have e1 : (⟨(y 1 : ℕ) / 128, hk y⟩ : Fin k0_t1_loop.trips) = k := Fin.ext (by show (y 1 : ℕ) / 128 = k; omega)
  have e2 : (⟨(y 1 : ℕ) % 128, Nat.mod_lt _ (by decide)⟩ : Fin 128) = r := Fin.ext (by show (y 1 : ℕ) % 128 = r; omega)
  rw [e1, e2]

theorem start_lt (s : Fin 8192) (c : Fin 384) : start (s / 128) + c < 8192 := by
  unfold start; omega

/-- The key read at place `c` of a query's window of 384. -/
def keyAt (s : Fin 8192) (c : Fin 384) : Fin 8192 := ⟨start (s / 128) + c, start_lt s c⟩

/-- What the kernel leaves for a query position, a head of a key head, and a place in the head. -/
def headVal (K : FVec Ideal S8 .f32) (P : FVec Ideal S8x8192x5376 .f32) (b : Fin 8) (s : Fin 8192) (g : Fin 2) (j : Fin 4)
    (d : Fin 64) : EReal :=
  attend (fun c => (∑ e : Fin 64, P (ix3 b s ⟨2048 + (64 * (4 * g + j) + e), by omega⟩) *
      P (ix3 b (keyAt s c) ⟨2560 + lane g e, by omega⟩)) * cq + tilt (slope g j) (BitVec.ofNat 32 (keyAt s c) - BitVec.ofNat 32 s) * cl)
    (K (ix1 ⟨4 * g + j, by omega⟩)) (fun c => P (ix3 b (keyAt s c) ⟨2688 + lane g d, by omega⟩))
  * (P (ix3 b s ⟨2816 + (64 * (4 * g + j) + d), by omega⟩) * Ideal.logistic (P (ix3 b s ⟨2816 + (64 * (4 * g + j) + d), by omega⟩)))

theorem query_read (c : Dev nD) (t : Fin cfg0.N) (k : Fin k0_t1_loop.trips) (r : Fin 128) (n : Fin 512) (b : Fin 8) (s : Fin 8192)
    (hb : (b : ℕ) = t / 4) (hs : (s : ℕ) = 2048 * (t % 4) + (128 * k + r)) :
    X0_1 m c t ((Rect.unit (s := S1x2048x512) (k0_off1 k) S1x128x512.size (k0_off1_inb k)).toLoadRect.idx (ix3 0 r n))
      = V m c main_v21 (ix3 b s ⟨4096 + n, by omega⟩) := by
  unfold X0_1 Pipeline.Window.fill; rw [dif_pos (moved0_1 t _)]
  blk_simp [iblk]
  blk_ext [blockAt t]
  · show t.val % 4 * 2048 + (k0_off1 k 1 + 1 * (r : ℕ)) = s
    rw [off1_1]; omega
  · show 8 * 512 + (k0_off1 k 2 + 1 * (n : ℕ)) = 4096 + n
    rw [off1_2]; omega

theorem gate_read (c : Dev nD) (t : Fin cfg0.N) (k : Fin k0_t1_loop.trips) (r : Fin 128) (n : Fin 512) (b : Fin 8) (s : Fin 8192)
    (hb : (b : ℕ) = t / 4) (hs : (s : ℕ) = 2048 * (t % 4) + (128 * k + r)) :
    X0_4 m c t ((Rect.unit (s := S1x2048x512) (k0_off1 k) S1x128x512.size (k0_off1_inb k)).toLoadRect.idx (ix3 0 r n))
      = V m c main_v21 (ix3 b s ⟨4608 + n, by omega⟩) := by
  unfold X0_4 Pipeline.Window.fill; rw [dif_pos (moved0_4 t _)]
  blk_simp [iblk]
  blk_ext [blockAt t]
  · show t.val % 4 * 2048 + (k0_off1 k 1 + 1 * (r : ℕ)) = s
    rw [off1_1]; omega
  · show 9 * 512 + (k0_off1 k 2 + 1 * (n : ℕ)) = 4608 + n
    rw [off1_2]; omega

theorem key_read (c : Dev nD) (t : Fin cfg0.N) (k : Fin k0_t1_loop.trips) (r : Fin 384) (n : Fin 128) (b : Fin 8) (s : Fin 8192)
    (hb : (b : ℕ) = t / 4) (hs : (s : ℕ) = start (16 * (t % 4) + k) + r) :
    (iblk m c 2 t : Vec Ideal S1x8192x128 .bf16) ((Rect.unit (s := S1x8192x128) (k0_off2 (grid0.coords t) k) S1x384x128.size (k0_off2_inb (grid0.coords t) k)).toLoadRect.idx (ix3 0 r n))
      = V m c main_v21 (ix3 b s ⟨5120 + n, by omega⟩) := by
  blk_simp [iblk]
  blk_ext [blockAt t]
  · show k0_off2 (grid0.coords t) k 1 + 1 * (r : ℕ) = s
    rw [off2_1]; omega
  · show 40 * 128 + (k0_off2 (grid0.coords t) k 2 + 1 * (n : ℕ)) = 5120 + n
    rw [off2_2]; omega

theorem value_read (c : Dev nD) (t : Fin cfg0.N) (k : Fin k0_t1_loop.trips) (r : Fin 384) (n : Fin 128) (b : Fin 8) (s : Fin 8192)
    (hb : (b : ℕ) = t / 4) (hs : (s : ℕ) = start (16 * (t % 4) + k) + r) :
    (iblk m c 3 t : Vec Ideal S1x8192x128 .bf16) ((Rect.unit (s := S1x8192x128) (k0_off2 (grid0.coords t) k) S1x384x128.size (k0_off2_inb (grid0.coords t) k)).toLoadRect.idx (ix3 0 r n))
      = V m c main_v21 (ix3 b s ⟨5248 + n, by omega⟩) := by
  blk_simp [iblk]
  blk_ext [blockAt t]
  · show k0_off2 (grid0.coords t) k 1 + 1 * (r : ℕ) = s
    rw [off2_1]; omega
  · show 41 * 128 + (k0_off2 (grid0.coords t) k 2 + 1 * (n : ℕ)) = 5248 + n
    rw [off2_2]; omega

theorem bias_read (c : Dev nD) (t : Fin cfg0.N) (k : Fin k0_t1_loop.trips) (g : Fin 2) (r : Fin 512) (e : Fin 384) (off : Fin 4 → ℕ)
    (h : ∀ a, off a + S1x1x512x384.size a ≤ S3x2x512x384.size a)
    (ho : off = ![(place (16 * (t.val % 4) + k.val)).val, g.val, 0, 0]) :
    (iblk m c 5 t : Vec Ideal S3x2x512x384 .f32) ((Rect.unit (s := S3x2x512x384) off S1x1x512x384.size h).toLoadRect.idx (ix4 0 0 r e))
      = V m c main_v38 (ix4 (place (16 * (t.val % 4) + k.val)) g r e) := by
  subst ho
  blk_simp [iblk]
  blk_ext [blockAt t]
  · exact (congrArg ((place (16 * (t.val % 4) + k.val)).val + ·) (Nat.mul_zero 1)).trans (Nat.add_zero _)
  · exact (congrArg (g.val + ·) (Nat.mul_zero 1)).trans (Nat.add_zero _)
  · show 0 + 1 * (r : ℕ) = r
    omega
  · show 0 + 1 * (e : ℕ) = e
    omega

theorem sink_read (c : Dev nD) (t : Fin cfg0.N) (h : Fin 8) :
    (iblk m c 0 t : Vec Ideal S8 .f32) (ix1 h) = m ((c : Thread nD τ).loc main_arg0) (ix1 h) := by
  blk_simp [iblk, V]
  blk_ext [blockAt t]

end Cert.SwIdeal.Whole
end
-- ==== Proof.SwVal.lean ====
module

public import proofs.«01_k».proof.Proof.SwArr

@[expose] public section

set_option maxRecDepth 16384

noncomputable section

open Idealize.ShloMosaic Idealize.ShloMosaic.TcCoe Idealize.SL.Sem
open Idealize.ShloMosaic.Pipeline (Dat)

namespace Cert.SwIdeal.Whole

open Cert.SwIdeal Cert.SwIdeal.Gen

variable (m : (ℓ : Loc nD τ sig) → Buf (Elt Ideal) ℓ)

/-- The distance from a query to a key of its window, from the places inside the blocks. -/
theorem distance (s : Fin 8192) (c : Fin 384) (r : ℕ) (hr : r = s % 128) :
    BitVec.ofNat 32 c - BitVec.ofNat 32 (place (s / 128)) * 128#32 - BitVec.ofNat 32 r =
      BitVec.ofNat 32 (keyAt s c) - BitVec.ofNat 32 s := by
  have h : start (s / 128) + 128 * (place (s / 128)).val = 128 * (s / 128) := by
    have hs := s.isLt
    unfold start place
    by_cases h0 : (s : ℕ) / 128 = 0
    · rw [if_pos h0, h0]; rfl
    · by_cases h1 : (s : ℕ) / 128 = 63
      · rw [if_neg h0, if_pos h1, h1]; rfl
      · rw [if_neg h0, if_neg h1]
        show min 7808 (128 * ((s : ℕ) / 128 - 1)) + 128 * 1 = _
        omega
  have hs : (s : ℕ) = start (s / 128) + (place (s / 128)).val * 128 + r := by omega
  have e : BitVec.ofNat 32 s = BitVec.ofNat 32 (start (s / 128)) + BitVec.ofNat 32 (place (s / 128)) * 128#32 + BitVec.ofNat 32 r := by
    rw [show (128#32 : BitVec 32) = BitVec.ofNat 32 128 from rfl, ← BitVec.ofNat_mul, ← BitVec.ofNat_add, ← BitVec.ofNat_add, ← hs]
  rw [e, show ((keyAt s c : Fin 8192) : ℕ) = start (s / 128) + c from rfl, BitVec.ofNat_add]
  generalize BitVec.ofNat 32 (start (s / 128)) = x
  generalize BitVec.ofNat 32 (place (s / 128)) * 128#32 = y
  generalize BitVec.ofNat 32 r = z
  generalize BitVec.ofNat 32 c = w
  bv_omega

theorem stored_apply₂ (sink : Fin 2 → Fin 4 → EReal) (q : Vec Ideal S1x128x512 .bf16) (k v : Vec Ideal S1x384x128 .bf16)
    (z : Vec Ideal S1x128x512 .bf16) (b0 b1 : Vec Ideal S1x1x512x384 .f32) (g : Fin 2) (j : Fin 4) (r : Fin 128) (d : Fin 64)
    (n : Fin 512) (hn : (n : ℕ) = 128 * j + (64 * g + d)) :
    stored sink q k v z b0 b1 (ix3 0 r n) =
      attend (fun c => score g j q k ((![b0, b1] : Fin 2 → Vec Ideal S1x1x512x384 .f32) g) r c) (sink g j)
        (fun c => v (ix3 0 c (lane g d))) * (z (ix3 0 r n) * Ideal.logistic (z (ix3 0 r n))) :=
  stored_apply sink q k v z ![b0, b1] g j r d n hn

set_option maxHeartbeats 1000000 in
theorem trip_val (c : Dev nD) (t : Fin cfg0.N) (k : Fin k0_t1_loop.trips) (r : Fin 128) (g : Fin 2) (j : Fin 4) (d : Fin 64)
    (n : Fin 512) (hn : (n : ℕ) = 128 * j + (64 * g + d)) (b : Fin 8) (s : Fin 8192)
    (hb : (b : ℕ) = t / 4) (hs : (s : ℕ) = 2048 * (t % 4) + (128 * k + r)) :
    tripVal (grid0.coords t) (iblk m c 0 t) (X0_1 m c t) (iblk m c 2 t) (iblk m c 3 t) (X0_4 m c t) (iblk m c 5 t) k (ix3 0 r n)
      = headVal (m ((c : Thread nD τ).loc main_arg0)) (m ((c : Thread nD τ).loc main_arg1)) b s g j d := by
  have hk : k.val < 16 := by have := k.isLt; exact loopTrips ▸ this
  have hq : (s : ℕ) / 128 = 16 * (t.val % 4) + k.val := by omega
  unfold tripVal headVal
  rw [stored_apply₂ _ _ _ _ _ _ _ g j r d n hn]
  have hz := (gate_read m c t k r n b s hb hs).trans ((congrFun (entry_perm m c) _).trans
    (perm_gate _ b s g j d ⟨4608 + n, by omega⟩ (by show 4608 + (n : ℕ) = _; omega)))
  refine congrArg₂ (· * ·) (congr (congr (congrArg attend (funext fun e => ?_)) ?_) (funext fun e => ?_)) ?_
  · unfold score
    refine congrArg₂ (· + ·) (congrArg (· * cq) (Finset.sum_congr rfl fun f _ => congrArg₂ (· * ·) ?_ ?_)) (congrArg (· * cl) ?_)
    · exact (query_read m c t k r _ b s hb hs).trans ((congrFun (entry_perm m c) _).trans
        (perm_query _ b s g j f _ rfl))
    · exact (key_read m c t k e _ b (keyAt s e) hb (by show start (s / 128) + (e : ℕ) = _; rw [hq])).trans ((congrFun (entry_perm m c) _).trans
        (perm_key _ b (keyAt s e) (lane g f) _ rfl))
    · refine Eq.trans ?_ ((congrFun (entry_bias m c) (ix4 (place (s / 128)) g (row j r) e)).trans
        ((bias_apply (place (s / 128)) g j r e).trans (congrArg (tilt (slope g j)) (distance s e r (by omega)))))
      rw [hq]
      match g with
      | 0 => exact bias_read m c t k 0 (row j r) e _ _ (off3_eq t k)
      | 1 => exact bias_read m c t k 1 (row j r) e _ _ (off4_eq t k)
  · exact sink_read m c t _
  · exact (value_read m c t k e _ b (keyAt s e) hb (by show start (s / 128) + (e : ℕ) = _; rw [hq])).trans ((congrFun (entry_perm m c) _).trans
        (perm_value _ b (keyAt s e) (lane g d) _ rfl))
  · rw [← hz]

end Cert.SwIdeal.Whole
end
-- ==== Proof.SwOut.lean ====
module

public import proofs.«01_k».proof.Proof.SwVal

@[expose] public section

set_option maxRecDepth 16384

noncomputable section

open Idealize.ShloMosaic Idealize.ShloMosaic.TcCoe Idealize.SL.Sem
open Idealize.ShloMosaic.Pipeline (Dat)

namespace Cert.SwIdeal.Whole

open Cert.SwIdeal Cert.SwIdeal.Gen

variable (m : (ℓ : Loc nD τ sig) → Buf (Elt Ideal) ℓ)

/-- The array the kernel leaves, given an array that holds `headVal` at every head's place. -/
theorem result_of (c : Dev nD) (W : FVec Ideal S8x8192x512 .bf16)
    (hW : ∀ (b : Fin 8) (s : Fin 8192) (g : Fin 2) (j : Fin 4) (d : Fin 64) (n : Fin 512), (n : ℕ) = 128 * j + (64 * g + d) →
      headVal (m ((c : Thread nD τ).loc main_arg0)) (m ((c : Thread nD τ).loc main_arg1)) b s g j d = W (ix3 b s n)) :
    (dats m 0 c).arrAt 6 (cfgs 0).N = W := by
  refine (dats m 0 c).arrAt_eq_of_covers 6 _ (by decide +kernel) fun t hf y => ?_
  blk_simp; rw [after0_6]
  unfold outsAt0
  have h1 : (y 1 : ℕ) < 2048 := (y 1).isLt
  have h2 : (y 2 : ℕ) < 512 := (y 2).isLt
  have ht : t.val < 32 := (blockAt t).2.2.2.2.2.2.2.2
  refine (out_apply c (grid0.coords t) _ _ _ _ _ _ _ _ _ _ _ _ _ _ _ _ _ _ _ _ y ⟨(y 1 : ℕ) / 128, by rw [loopTrips]; omega⟩
    ⟨(y 1 : ℕ) % 128, Nat.mod_lt _ (by decide)⟩ (by show (y 1 : ℕ) = 128 * ((y 1 : ℕ) / 128) + (y 1 : ℕ) % 128; omega)).trans ?_
  refine (trip_val m c t ⟨(y 1 : ℕ) / 128, by rw [loopTrips]; omega⟩ ⟨(y 1 : ℕ) % 128, Nat.mod_lt _ (by decide)⟩
    ⟨(y 2 : ℕ) / 64 % 2, Nat.mod_lt _ (by decide)⟩ ⟨(y 2 : ℕ) / 128, by omega⟩ ⟨(y 2 : ℕ) % 64, Nat.mod_lt _ (by decide)⟩ (y 2)
    (by show (y 2 : ℕ) = 128 * ((y 2 : ℕ) / 128) + (64 * ((y 2 : ℕ) / 64 % 2) + (y 2 : ℕ) % 64); omega)
    ⟨t.val / 4, by omega⟩ ⟨2048 * (t.val % 4) + (y 1 : ℕ), by omega⟩ rfl
    (by show 2048 * (t.val % 4) + (y 1 : ℕ) = 2048 * (t.val % 4) + (128 * ((y 1 : ℕ) / 128) + (y 1 : ℕ) % 128); omega)).trans ?_
  refine (hW _ _ _ _ _ (y 2) (by show (y 2 : ℕ) = 128 * ((y 2 : ℕ) / 128) + (64 * ((y 2 : ℕ) / 64 % 2) + (y 2 : ℕ) % 64); omega)).trans ?_
  blk_ext [blockAt t]

end Cert.SwIdeal.Whole
end
-- ==== Proof.SwTerm.lean ====
module

public import proofs.«01_k».proof.Proof.Gen.SwRefIdeal.Run

@[expose] public section

set_option maxRecDepth 16384

noncomputable section

open Idealize.ShloMosaic Idealize.ShloMosaic.TcCoe Idealize.SL.Sem

namespace Cert.SwRefIdeal.Term

open Cert.SwRefIdeal Cert.SwRefIdeal.Gen

variable {F : FTy → Type} [FloatOps F]

/-- Each key's signed distance from each query. -/
def dist : IVec S8192x8192 32 := subi (iotaInDim S8192x8192 32 1) (iotaInDim S8192x8192 32 0)

/-- The scaled scores of every query head against every key. -/
def dots (p : FVec F S8x8192x5376 .f32) : FVec F S8x2x4x8192x8192 .f32 :=
  mulf (transpose S8x2x4x8192x8192 [0, 1, 4, 3, 2]
      (Host.dotGeneral dot_S8x8192x2x64_S8x8192x2x4x64_S8x2x8192x8192x4_3_4_1_13_02_02 none
        (shapeCast _ (extractStridedSlice S8x8192x128 ![0, 0, 2560] p slices_S8x8192x5376_S8x8192x128_0_0_2560)
          shapeCasts_S8x8192x128_S8x8192x2x64)
        (shapeCast _ (extractStridedSlice S8x8192x512 ![0, 0, 2048] p slices_S8x8192x5376_S8x8192x512_0_0_2048)
          shapeCasts_S8x8192x512_S8x8192x2x4x64)) transposes_S8x2x8192x8192x4_S8x2x4x8192x8192_0_1_4_3_2)
    (broadcastInDim S8x2x4x8192x8192 ![] bcast_S_S8x2x4x8192x8192 (constant S_ .f32 0x3E000000#32))

/-- The slope of each head times each distance. -/
def slopes : FVec F S8x2x4x8192x8192 .f32 :=
  broadcastInDim S8x2x4x8192x8192 ![0, 1, 2, 3, 4] bcast_S1x2x4x8192x8192_S8x2x4x8192x8192_0_1_2_3_4
    (broadcastInDim S1x2x4x8192x8192 ![1, 2, 3, 4] bcast_S2x4x8192x8192_S1x2x4x8192x8192_1_2_3_4
      (mulf (broadcastInDim S2x4x8192x8192 ![0, 1, 2, 3] bcast_S2x4x1x1_S2x4x8192x8192_0_1_2_3
          (broadcastInDim S2x4x1x1 ![0, 1] bcast_S2x4_S2x4x1x1_0_1
            (shapeCast _ ((fun i => FloatOps.ofBits .f32 (lit0 (S8.rowMajor i)))) shapeCasts_S8_S2x4)))
        (broadcastInDim S2x4x8192x8192 ![0, 1, 2, 3] bcast_S1x1x8192x8192_S2x4x8192x8192_0_1_2_3
          (broadcastInDim S1x1x8192x8192 ![2, 3] bcast_S8192x8192_S1x1x8192x8192_2_3 (sitofp .f32 (absi dist))))))

/-- The biased scores, minus infinity past the window. -/
def scores (p : FVec F S8x8192x5376 .f32) : FVec F S8x2x4x8192x8192 .f32 :=
  select (broadcastInDim S8x2x4x8192x8192 ![3, 4] bcast_S8192x8192_S8x2x4x8192x8192_3_4
      (cmpi .sle (absi dist) (broadcastInDim S8192x8192 ![] bcast_S_S8192x8192 (constantI S_ 32 128#32))))
    (subf (dots p) slopes)
    (broadcastInDim S8x2x4x8192x8192 ![] bcast_S_S8x2x4x8192x8192 (id (constant S_ .f32 0xFF800000#32)))

/-- The sinks, one to a head. -/
def sinks (k : FVec F S8 .f32) : FVec F S8x2x4x8192x1 .f32 :=
  broadcastInDim S8x2x4x8192x1 ![0, 1, 2, 3, 4] bcast_S1x2x4x1x1_S8x2x4x8192x1_0_1_2_3_4
    (shapeCast _ k shapeCasts_S8_S1x2x4x1x1)

/-- The largest of a query's scores. -/
def peak (a : FVec F S8x2x4x8192x8192 .f32) : FVec F S8x2x4x8192 .f32 :=
  Host.reduce FloatOps.maximumf a (constant S_ .f32 0xFF800000#32) reducesTo_S8x2x4x8192x8192_S8x2x4x8192_d4 h_S_

/-- The largest of a query's scores and its sink. -/
def top (k : FVec F S8 .f32) (a : FVec F S8x2x4x8192x8192 .f32) : FVec F S8x2x4x8192x1 .f32 :=
  maximumf (broadcastInDim S8x2x4x8192x1 ![0, 1, 2, 3] bcast_S8x2x4x8192_S8x2x4x8192x1_0_1_2_3 (peak a)) (sinks k)

/-- The exponentials under the largest. -/
def weights (a : FVec F S8x2x4x8192x8192 .f32) (t : FVec F S8x2x4x8192x1 .f32) : FVec F S8x2x4x8192x8192 .f32 :=
  Host.exp (subf a (broadcastInDim S8x2x4x8192x8192 ![0, 1, 2, 3, 4] bcast_S8x2x4x8192x1_S8x2x4x8192x8192_0_1_2_3_4 t))

/-- The sum of a query's exponentials and its sink's. -/
def total (k : FVec F S8 .f32) (e : FVec F S8x2x4x8192x8192 .f32) (t : FVec F S8x2x4x8192x1 .f32) :
    FVec F S8x2x4x8192x1 .f32 :=
  addf (broadcastInDim S8x2x4x8192x1 ![0, 1, 2, 3] bcast_S8x2x4x8192_S8x2x4x8192x1_0_1_2_3
      (Host.reduceAdd e (constant S_ .f32 0x00000000#32) reducesTo_S8x2x4x8192x8192_S8x2x4x8192_d4 h_S_))
    (Host.exp (subf (sinks k) t))

/-- The values under the softmax. -/
def mix (p : FVec F S8x8192x5376 .f32) (e : FVec F S8x2x4x8192x8192 .f32) (u : FVec F S8x2x4x8192x1 .f32) :
    FVec F S8x8192x2x4x64 .f32 :=
  transpose S8x8192x2x4x64 [0, 4, 1, 3, 2]
    (Host.dotGeneral dot_S8x8192x2x64_S8x2x4x8192x8192_S8x2x64x4x8192_1_4_3_23_02_01 none
      (shapeCast _ (extractStridedSlice S8x8192x128 ![0, 0, 2688] p slices_S8x8192x5376_S8x8192x128_0_0_2688)
        shapeCasts_S8x8192x128_S8x8192x2x64)
      (Host.divf e (broadcastInDim S8x2x4x8192x8192 ![0, 1, 2, 3, 4] bcast_S8x2x4x8192x1_S8x2x4x8192x8192_0_1_2_3_4 u)))
    transposes_S8x2x64x4x8192_S8x8192x2x4x64_0_4_1_3_2

/-- The gate. -/
def gate (p : FVec F S8x8192x5376 .f32) : FVec F S8x8192x512 .f32 :=
  mulf (extractStridedSlice S8x8192x512 ![0, 0, 2816] p slices_S8x8192x5376_S8x8192x512_0_0_2816)
    (Host.divf (broadcastInDim S8x8192x512 ![] bcast_S_S8x8192x512 (constant S_ .f32 0x3F800000#32))
      (addf (broadcastInDim S8x8192x512 ![] bcast_S_S8x8192x512 (constant S_ .f32 0x3F800000#32))
        (Host.exp (Host.negf (extractStridedSlice S8x8192x512 ![0, 0, 2816] p slices_S8x8192x5376_S8x8192x512_0_0_2816)))))

/-- The gated heads, laid head of a key head by head of the other. -/
def laid (o : FVec F S8x8192x2x4x64 .f32) (z : FVec F S8x8192x512 .f32) : FVec F S8x8192x512 .bf16 :=
  truncf .bf16 (shapeCast _ (transpose S8x8192x4x2x64 [0, 1, 3, 2, 4]
    (shapeCast _ (mulf (shapeCast _ o shapeCasts_S8x8192x2x4x64_S8x8192x512) z) shapeCasts_S8x8192x512_S8x8192x2x4x64)
    transposes_S8x8192x2x4x64_S8x8192x4x2x64_0_1_3_2_4) shapeCasts_S8x8192x4x2x64_S8x8192x512) bitsLt_bf16_f32

/-- The windowed attention's reference as one function of its two arguments. -/
def whole (k : FVec F S8 .f32) (p : FVec F S8x8192x5376 .f32) : FVec F S8x8192x512 .bf16 :=
  laid (mix p (weights (scores p) (top k (scores p))) (total k (weights (scores p) (top k (scores p))) (top k (scores p))))
    (gate p)

/-- Equal arguments give the same result. -/
theorem whole_congr {k k' : FVec F S8 .f32} {p p' : FVec F S8x8192x5376 .f32} (h0 : k = k') (h1 : p = p') :
    whole k p = whole k' p' := by
  subst h0 h1; rfl

/-- What the reference's run leaves is `whole` of its arguments. -/
theorem run_eq (m : (ℓ : Loc nD τ sig) → Buf (Elt F) ℓ) (c : Dev nD) :
    Value.res_main_v58 m c = whole (F := F) (m ((c.tc : Thread nD τ).loc main_arg0)) (m ((c.tc : Thread nD τ).loc main_arg1)) := rfl

end Cert.SwRefIdeal.Term

end
-- ==== Proof.SwRefRead.lean ====
module

public import proofs.«01_k».proof.Proof.SwTerm
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.SwRefIdeal.Term

open Cert.SwRefIdeal Cert.SwRefIdeal.Gen

theorem bits_bot : Ideal.ofBits .f32 4286578688#32 = ⊥ := by
  simp [Ideal.ofBits, Ideal.ieee]

theorem bits_eighth : Ideal.ofBits .f32 1040187392#32 = ((1 / 8 : ℝ) : EReal) := by
  simp [Ideal.ofBits, Ideal.ieee]
  rw [← EReal.coe_mul]
  norm_num

/-- A head's place among the eight. -/
def hd (g : Fin 2) (j : Fin 4) : Fin 8 := ⟨g * 4 + j, by omega⟩

/-- The scaled score of a query against a key. -/
def dot (p : FVec Ideal S8x8192x5376 .f32) (b : Fin 8) (g : Fin 2) (j : Fin 4) (s t : Fin 8192) : EReal :=
  (∑ x : Fin 64, p (ix3 b t ⟨2560 + (g * 64 + x), by omega⟩) * p (ix3 b s ⟨2048 + (g * 256 + j * 64 + x), by omega⟩))
    * ((1 / 8 : ℝ) : EReal)

theorem dots_apply (p : FVec Ideal S8x8192x5376 .f32) (b : Fin 8) (g : Fin 2) (j : Fin 4) (s t : Fin 8192) :
    dots p (ix5 b g j s t) = dot p b g j s t := by
  pointwise [dots]
  rw [bits_eighth]; rfl

/-- The biased score of a query against a key. -/
def biased (p : FVec Ideal S8x8192x5376 .f32) (b : Fin 8) (g : Fin 2) (j : Fin 4) (s t : Fin 8192) : EReal :=
  Scalar.select (IntOp.cmpi .sle (IntOp.absi (BitVec.ofNat 32 t - BitVec.ofNat 32 s)) 128#32)
    (dot p b g j s t - Ideal.ofBits .f32 (lit0 (S8.rowMajor (ix1 (hd g j)))) *
      FloatOps.sitofp (F := Ideal) .f32 (IntOp.absi (BitVec.ofNat 32 t - BitVec.ofNat 32 s))) ⊥

theorem scores_apply (p : FVec Ideal S8x8192x5376 .f32) (b : Fin 8) (g : Fin 2) (j : Fin 4) (s t : Fin 8192) :
    scores p (ix5 b g j s t) = biased p b g j s t := by
  pointwise [scores, dist, slopes]
  rw [dots_apply, show id (constant (F := Ideal) S_ FTy.f32 4286578688#32) ix0 = ⊥ from bits_bot]; rfl

/-- A maximum over the last of five axes is the fold of `max` along it. -/
theorem reduce_last {n0 n1 n2 n3 n4 : ℕ} {t u : Shape} (v : (⟨5, ![n0, n1, n2, n3, n4]⟩ : Shape).Idx → EReal) (init : u.Idx → EReal)
    (h : (⟨5, ![n0, n1, n2, n3, n4]⟩ : Shape).ReducesTo [4] t) (hu : 0 < u.numel) (j : t.Idx) :
    Host.reduce max v init h hu j = (Finset.univ : Finset (Fin n4)).fold max (init (Shape.Idx.first hu)) (fun k =>
      v (ix5 ⟨(j ⟨0, h.lt_r5_a4_0⟩).val, Shape.coordLt (j ⟨0, h.lt_r5_a4_0⟩) h.size_r5_a4_0⟩
        ⟨(j ⟨1, h.lt_r5_a4_1⟩).val, Shape.coordLt (j ⟨1, h.lt_r5_a4_1⟩) h.size_r5_a4_1⟩
        ⟨(j ⟨2, h.lt_r5_a4_2⟩).val, Shape.coordLt (j ⟨2, h.lt_r5_a4_2⟩) h.size_r5_a4_2⟩
        ⟨(j ⟨3, h.lt_r5_a4_3⟩).val, Shape.coordLt (j ⟨3, h.lt_r5_a4_3⟩) h.size_r5_a4_3⟩ k)) := by
  rw [Host.reduce_eq_fold, h.fold_fiber_r5_a4]

theorem peak_apply (a : FVec Ideal S8x2x4x8192x8192 .f32) (b : Fin 8) (g : Fin 2) (j : Fin 4) (s : Fin 8192) :
    peak a (ix4 b g j s) = Finset.univ.fold max ⊥ (fun t => a (ix5 b g j s t)) := by
  have h := reduce_last a (constant (F := Ideal) S_ .f32 0xFF800000#32) reducesTo_S8x2x4x8192x8192_S8x2x4x8192_d4 h_S_ (ix4 b g j s)
  rw [show constant (F := Ideal) S_ .f32 0xFF800000#32 (Shape.Idx.first h_S_) = ⊥ from bits_bot] at h
  exact h

theorem lift_apply (x : FVec Ideal S8x2x4x8192 .f32) (b : Fin 8) (g : Fin 2) (j : Fin 4) (s : Fin 8192) :
    broadcastInDim S8x2x4x8192x1 ![0, 1, 2, 3] bcast_S8x2x4x8192_S8x2x4x8192x1_0_1_2_3 x (ix5 b g j s 0) = x (ix4 b g j s) := by
  pointwise

theorem sinks_apply (k : FVec Ideal S8 .f32) (b : Fin 8) (g : Fin 2) (j : Fin 4) (s : Fin 8192) :
    sinks k (ix5 b g j s 0) = k (ix1 (hd g j)) := by
  pointwise [sinks]
  rfl

theorem max_at {t : Shape} (x y : FVec Ideal t .f32) (i : t.Idx) : maximumf x y i = max (x i) (y i) := rfl

theorem top_apply (k : FVec Ideal S8 .f32) (a : FVec Ideal S8x2x4x8192x8192 .f32) (b : Fin 8) (g : Fin 2) (j : Fin 4) (s : Fin 8192) :
    top k a (ix5 b g j s 0) = max (Finset.univ.fold max ⊥ (fun t => a (ix5 b g j s t))) (k (ix1 (hd g j))) := by
  unfold top
  rw [max_at, lift_apply, peak_apply, sinks_apply]

theorem weights_apply (a : FVec Ideal S8x2x4x8192x8192 .f32) (u : FVec Ideal S8x2x4x8192x1 .f32) (b : Fin 8) (g : Fin 2)
    (j : Fin 4) (s t : Fin 8192) :
    weights a u (ix5 b g j s t) = Ideal.exp (a (ix5 b g j s t) - u (ix5 b g j s 0)) := by
  pointwise [weights]

theorem total_apply (k : FVec Ideal S8 .f32) (a : FVec Ideal S8x2x4x8192x8192 .f32) (u : FVec Ideal S8x2x4x8192x1 .f32)
    (b : Fin 8) (g : Fin 2) (j : Fin 4) (s : Fin 8192) :
    total k a u (ix5 b g j s 0) = ∑ x, a (ix5 b g j s x) + Ideal.exp (k (ix1 (hd g j)) - u (ix5 b g j s 0)) := by
  pointwise [total, sinks]
  rfl

theorem mix_apply (p : FVec Ideal S8x8192x5376 .f32) (a : FVec Ideal S8x2x4x8192x8192 .f32)
    (u : FVec Ideal S8x2x4x8192x1 .f32) (b : Fin 8) (g : Fin 2) (j : Fin 4) (s : Fin 8192) (d : Fin 64) :
    mix p a u (ix5 b s g j d) =
      ∑ x, p (ix3 b x ⟨2688 + (g * 64 + d), by omega⟩) * Ideal.div (a (ix5 b g j s x)) (u (ix5 b g j s 0)) := by
  pointwise [mix]

theorem gate_apply (p : FVec Ideal S8x8192x5376 .f32) (b : Fin 8) (s : Fin 8192) (n : Fin 512) :
    gate p (ix3 b s n) = p (ix3 b s ⟨2816 + n, by omega⟩) * Ideal.logistic (p (ix3 b s ⟨2816 + n, by omega⟩)) := by
  pointwise [gate]
  rfl

theorem laid_at (o : FVec Ideal S8x8192x2x4x64 .f32) (z : FVec Ideal S8x8192x512 .f32) (b : Fin 8) (s : Fin 8192)
    (g : Fin 2) (j : Fin 4) (d : Fin 64) :
    laid o z (ix3 b s ⟨128 * j + (64 * g + d), by omega⟩) =
      o (ix5 b s g j d) * z (ix3 b s ⟨g * 256 + j * 64 + d, by omega⟩) := by
  pointwise [laid]

theorem laid_apply (o : FVec Ideal S8x8192x2x4x64 .f32) (z : FVec Ideal S8x8192x512 .f32) (b : Fin 8) (s : Fin 8192)
    (g : Fin 2) (j : Fin 4) (d : Fin 64) (n : Fin 512) (hn : (n : ℕ) = 128 * j + (64 * g + d)) :
    laid o z (ix3 b s n) = o (ix5 b s g j d) * z (ix3 b s ⟨g * 256 + j * 64 + d, by omega⟩) :=
  (congrArg (fun x => laid o z (ix3 b s x)) (Fin.ext hn)).trans (laid_at o z b s g j d)

/-- The largest of a query's biased scores and its sink. -/
def most (k : FVec Ideal S8 .f32) (p : FVec Ideal S8x8192x5376 .f32) (b : Fin 8) (g : Fin 2) (j : Fin 4) (s : Fin 8192) : EReal :=
  max (Finset.univ.fold max ⊥ (fun t => biased p b g j s t)) (k (ix1 (hd g j)))

/-- The reference's value at a head's place. -/
theorem whole_apply (k : FVec Ideal S8 .f32) (p : FVec Ideal S8x8192x5376 .f32) (b : Fin 8) (s : Fin 8192)
    (g : Fin 2) (j : Fin 4) (d : Fin 64) (n : Fin 512) (hn : (n : ℕ) = 128 * j + (64 * g + d)) :
    whole k p (ix3 b s n) =
      (∑ t, p (ix3 b t ⟨2688 + (g * 64 + d), by omega⟩) * Ideal.div (Ideal.exp (biased p b g j s t - most k p b g j s))
        (∑ t, Ideal.exp (biased p b g j s t - most k p b g j s) + Ideal.exp (k (ix1 (hd g j)) - most k p b g j s)))
      * (p (ix3 b s ⟨2816 + (g * 256 + j * 64 + d), by omega⟩) *
          Ideal.logistic (p (ix3 b s ⟨2816 + (g * 256 + j * 64 + d), by omega⟩))) := by
  have ht : top k (scores p) (ix5 b g j s 0) = most k p b g j s := by
    unfold most
    rw [top_apply]
    exact congrArg (fun f => max (Finset.univ.fold max ⊥ f) (k (ix1 (hd g j)))) (funext fun t => scores_apply p b g j s t)
  have hw : ∀ t, weights (scores p) (top k (scores p)) (ix5 b g j s t) = Ideal.exp (biased p b g j s t - most k p b g j s) := by
    intro t; rw [weights_apply, scores_apply, ht]
  have hu : total k (weights (scores p) (top k (scores p))) (top k (scores p)) (ix5 b g j s 0)
      = ∑ t, Ideal.exp (biased p b g j s t - most k p b g j s) + Ideal.exp (k (ix1 (hd g j)) - most k p b g j s) := by
    rw [total_apply, ht]; simp only [hw]
  unfold whole
  rw [laid_apply _ _ b s g j d n hn, mix_apply, gate_apply, hu]
  simp only [hw]

end Cert.SwRefIdeal.Term

end
-- ==== Proof.SwSoft.lean ====
module

public import Idealize.ShloMosaic.Lib.Pipeline.ValueKit
public import Idealize.ShloMosaic.Lib.Claim

@[expose] public section

noncomputable section

open Idealize.ShloMosaic

namespace Cert.Soft

/-- The scale between powers of two and of e. -/
abbrev cl : EReal := (((Real.log 2)⁻¹ : ℝ) : EReal)

theorem log_pos : 0 < (Real.log 2)⁻¹ := inv_pos.2 (Real.log_pos (by norm_num))

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem bot_cl : (⊥ : EReal) * cl = ⊥ := EReal.bot_mul_coe_of_pos log_pos

theorem mono_cl : Monotone (fun x : EReal => x * cl) := fun _ _ h =>
  mul_le_mul_of_nonneg_right h (EReal.coe_nonneg.2 log_pos.le)

theorem fold_sup {ι : Type} (s : Finset ι) (f : ι → EReal) : s.fold max ⊥ f = s.sup f := rfl

/-- Scaling by a positive real commutes with a maximum, and a maximum only sees where the values are not minus infinity. -/
theorem fold_scaled {ι κ : Type} [Fintype ι] [Fintype κ] (B : ι → EReal) (φ : κ → ι) (hout : ∀ t, (∀ c, φ c ≠ t) → B t = ⊥) :
    Finset.univ.fold max ⊥ (fun c => B (φ c) * cl) = Finset.univ.fold max ⊥ B * cl := by
  rw [fold_sup, fold_sup]
  have h := Finset.comp_sup_eq_sup_comp_of_is_total (s := (Finset.univ : Finset κ)) (f := fun c => B (φ c)) (fun x : EReal => x * cl) mono_cl bot_cl
  refine (h.symm.trans ?_ : _)
  refine congrArg (· * cl) (le_antisymm ?_ ?_)
  · exact Finset.sup_le fun c _ => Finset.le_sup (f := B) (Finset.mem_univ (φ c))
  · refine Finset.sup_le fun t _ => ?_
    by_cases ht : ∃ c, φ c = t
    · obtain ⟨c, rfl⟩ := ht
      exact Finset.le_sup (f := fun c => B (φ c)) (Finset.mem_univ c)
    · rw [hout t fun c hc => ht ⟨c, hc⟩]; exact bot_le

theorem exp_bot (M : EReal) : Ideal.exp (⊥ - M) = ((0 : ℝ) : EReal) := by
  rw [EReal.bot_sub]; rfl

theorem exp2_bot (M : EReal) : Ideal.exp2 (⊥ - M) = ((0 : ℝ) : EReal) := by
  rw [EReal.bot_sub]; rfl

/-- A power of two under the scale is a power of e. -/
theorem exp2_scaled (a : EReal) (M : ℝ) (ha : a ≠ ⊤) :
    Ideal.exp2 (a * cl - (M : EReal) * cl) = Ideal.exp (a - (M : EReal)) := by
  induction a using EReal.rec with
  | bot => rw [bot_cl, exp_bot, exp2_bot]
  | top => exact absurd rfl ha
  | coe x =>
    have e : ((x : EReal) * cl - (M : EReal) * cl) = (((x - M) / Real.log 2 : ℝ) : EReal) := by
      rw [← EReal.coe_mul, ← EReal.coe_mul, ← EReal.coe_sub]; congr 1; ring
    rw [e, ← EReal.coe_sub]
    show (((2 : ℝ) ^ ((x - M) / Real.log 2) : ℝ) : EReal) = ((Real.exp (x - M) : ℝ) : EReal)
    congr 1
    rw [Real.rpow_def_of_pos (by norm_num)]
    congr 1
    have := (Real.log_pos (by norm_num : (1 : ℝ) < 2)).ne'
    field_simp

theorem exp_real (a : EReal) (M : ℝ) (ha : a ≠ ⊤) : ∃ r : ℝ, 0 ≤ r ∧ Ideal.exp (a - (M : EReal)) = (r : EReal) := by
  induction a using EReal.rec with
  | bot => exact ⟨0, le_rfl, exp_bot _⟩
  | top => exact absurd rfl ha
  | coe x => exact ⟨Real.exp (x - M), (Real.exp_pos _).le, by rw [← EReal.coe_sub]; rfl⟩

theorem div_real (x y : ℝ) (hy : 0 < y) : Ideal.div (x : EReal) (y : EReal) = ((x * y⁻¹ : ℝ) : EReal) := by
  unfold Ideal.div
  rw [if_neg (by exact_mod_cast hy.ne'), EReal.coe_mul, EReal.coe_inv]

/-- The softmax over a window in powers of two, divided after the values are weighed, is the softmax over the whole
sequence in powers of e, divided before. -/
theorem attend_eq {ι κ : Type} [Fintype ι] [Fintype κ] (B : ι → EReal) (V : ι → ℝ) (k : ℝ) (φ : κ → ι)
    (hφ : Function.Injective φ) (hout : ∀ t, (∀ c, φ c ≠ t) → B t = ⊥) (hB : ∀ t, B t ≠ ⊤) :
    Ideal.div
      (∑ c, Ideal.exp2 (B (φ c) * cl - max (Finset.univ.fold max ⊥ (fun c => B (φ c) * cl)) ((k : EReal) * cl)) * (V (φ c) : EReal))
      (∑ c, Ideal.exp2 (B (φ c) * cl - max (Finset.univ.fold max ⊥ (fun c => B (φ c) * cl)) ((k : EReal) * cl)) * 1
        + Ideal.exp2 ((k : EReal) * cl - max (Finset.univ.fold max ⊥ (fun c => B (φ c) * cl)) ((k : EReal) * cl)))
    = ∑ t, (V t : EReal) * Ideal.div (Ideal.exp (B t - max (Finset.univ.fold max ⊥ B) (k : EReal)))
        (∑ t, Ideal.exp (B t - max (Finset.univ.fold max ⊥ B) (k : EReal))
          + Ideal.exp ((k : EReal) - max (Finset.univ.fold max ⊥ B) (k : EReal))) := by
  have hM : max (Finset.univ.fold max ⊥ (fun c => B (φ c) * cl)) ((k : EReal) * cl)
      = max (Finset.univ.fold max ⊥ B) (k : EReal) * cl := by
    rw [fold_scaled B φ hout]; exact (mono_cl.map_max).symm
  rw [hM]
  have hlt : max (Finset.univ.fold max ⊥ B) (k : EReal) < ⊤ := by
    refine max_lt ?_ (EReal.coe_lt_top k)
    rw [fold_sup, Finset.sup_lt_iff (bot_lt_top)]
    exact fun t _ => lt_top_iff_ne_top.2 (hB t)
  have hgt : ⊥ < max (Finset.univ.fold max ⊥ B) (k : EReal) := lt_max_of_lt_right (EReal.bot_lt_coe k)
  generalize max (Finset.univ.fold max ⊥ B) (k : EReal) = M at hlt hgt ⊢
  obtain ⟨M, rfl⟩ : ∃ r : ℝ, M = (r : EReal) := ⟨M.toReal, (EReal.coe_toReal hlt.ne hgt.ne').symm⟩
  choose r hr0 hr using fun t => exp_real (B t) M (hB t)
  have hw : Ideal.exp ((k : EReal) - (M : EReal)) = ((Real.exp (k - M) : ℝ) : EReal) := by rw [← EReal.coe_sub]; rfl
  have hz : ∀ t, (∀ c, φ c ≠ t) → r t = 0 := by
    intro t ht
    have h := hr t
    rw [hout t ht] at h
    have : ((0 : ℝ) : EReal) = (r t : EReal) := by rw [← h, exp_bot]
    exact (EReal.coe_injective this).symm
  have hs : ∀ f : ι → ℝ, (∀ t, (∀ c, φ c ≠ t) → f t = 0) → ∑ c, f (φ c) = ∑ t, f t := by
    intro f hf
    refine Finset.sum_of_injOn φ (hφ.injOn) (fun _ _ => Finset.mem_coe.2 (Finset.mem_univ _)) (fun t _ ht => hf t fun c hc => ht ⟨c, by simp, hc⟩) fun _ _ => rfl
  have hpos : 0 < ∑ t, r t + Real.exp (k - M) := add_pos_of_nonneg_of_pos (Finset.sum_nonneg fun t _ => hr0 t) (Real.exp_pos _)
  simp only [exp2_scaled _ M (hB _), exp2_scaled _ M (EReal.coe_ne_top k), hr, hw, mul_one]
  simp only [← EReal.coe_mul, coe_sum, ← EReal.coe_add]
  rw [hs r hz, hs (fun t => r t * V t) (fun t ht => by rw [hz t ht, zero_mul])]
  simp only [div_real _ _ hpos, ← EReal.coe_mul, coe_sum]
  congr 1
  rw [Finset.sum_mul]
  exact Finset.sum_congr rfl fun t _ => by ring

end Cert.Soft

end
-- ==== Proof.SwJoin.lean ====
module

public import proofs.«01_k».proof.Proof.SwOut
public import proofs.«01_k».proof.Proof.SwRefRead
public import proofs.«01_k».proof.Proof.SwSoft

@[expose] public section

set_option maxRecDepth 16384

noncomputable section

open Idealize.ShloMosaic Idealize.ShloMosaic.TcCoe Idealize.SL.Sem

namespace Cert.SwIdeal.Join

open Cert.SwIdeal Cert.SwIdeal.Gen Cert.SwIdeal.Whole
open Cert.SwRefIdeal.Term (hd dot biased most)

/-- A head's slope is a real number. -/
theorem slope_real (g : Fin 2) (j : Fin 4) : ∃ r : ℝ, slope g j = (r : EReal) := by
  have h : ∀ n : Fin 8, ∃ r : ℝ, Ideal.ofBits .f32 (lit0 n) = (r : EReal) := by
    intro n
    fin_cases n <;> exact ⟨_, by simp [lit0, Ideal.ofBits, Ideal.ieee]; rfl⟩
  exact h _

/-- A key's distance from the query. -/
def gap (s t : Fin 8192) : BitVec 32 := IntOp.absi (BitVec.ofNat 32 t - BitVec.ofNat 32 s)

theorem small (n : ℕ) (h : n < 8192) : (BitVec.ofNat 32 n).toInt = (n : ℤ) := by
  rw [BitVec.toInt_eq_toNat_cond, BitVec.toNat_ofNat, Nat.mod_eq_of_lt (by omega), if_pos (by omega)]

/-- Keys within the window are within 128 of the query. -/
theorem near (s t : Fin 8192) (h : (gap s t).sle 128#32 = true) : (t : ℕ) ≤ s + 128 ∧ (s : ℕ) ≤ t + 128 := by
  have hs := s.isLt
  have ht := t.isLt
  unfold gap IntOp.absi at h
  rw [BitVec.sle_eq_decide, decide_eq_true_eq] at h
  rcases Nat.lt_or_ge t s with hl | hl
  · have e : BitVec.ofNat 32 t - BitVec.ofNat 32 s = -BitVec.ofNat 32 (s - t : ℕ) := by
      apply BitVec.eq_of_toNat_eq; simp; omega
    have e2 : (-BitVec.ofNat 32 ((s : ℕ) - t)).msb = true := by
      rw [BitVec.msb_eq_decide]; simp; omega
    rw [e, if_pos e2, BitVec.neg_neg, small _ (by omega)] at h
    change _ ≤ (128 : ℤ) at h
    omega
  · have e : BitVec.ofNat 32 t - BitVec.ofNat 32 s = BitVec.ofNat 32 (t - s : ℕ) := by
      apply BitVec.eq_of_toNat_eq; simp; omega
    have e2 : (BitVec.ofNat 32 ((t : ℕ) - s)).msb = false := by
      rw [BitVec.msb_eq_decide]; simp; omega
    rw [e, if_neg (by rw [e2]; decide), small _ (by omega)] at h
    change _ ≤ (128 : ℤ) at h
    omega

/-- Every key within the window is read. -/
theorem key_read_of_near (s t : Fin 8192) (h : (t : ℕ) ≤ s + 128 ∧ (s : ℕ) ≤ t + 128) : ∃ c, keyAt s c = t := by
  have hs := s.isLt
  have ht := t.isLt
  have : start (s / 128) ≤ t ∧ (t : ℕ) < start (s / 128) + 384 := by unfold start; omega
  exact ⟨⟨t - start (s / 128), by omega⟩, Fin.ext (by show start (s / 128) + (t - start (s / 128)) = (t : ℕ); omega)⟩

theorem keyAt_injective (s : Fin 8192) : Function.Injective (keyAt s) := by
  intro a b h
  have := congrArg Fin.val h
  exact Fin.ext (by change start (s / 128) + (a : ℕ) = start (s / 128) + (b : ℕ) at this; omega)

variable (P : S8x8192x5376.Idx → ℝ) (b : Fin 8) (g : Fin 2) (j : Fin 4)

/-- The biased score by the comparison's bit. -/
theorem biased_cases (s t : Fin 8192) : ∃ (x h : ℝ),
    slope g j = (h : EReal) ∧ dot (fun i => (P i : EReal)) b g j s t = ((x * (1 / 8) : ℝ) : EReal) ∧
    (∑ e : Fin 64, (P (ix3 b s ⟨2048 + (64 * (4 * g + j) + e), by omega⟩) : EReal) *
      (P (ix3 b t ⟨2560 + lane g e, by have := (lane g e).isLt; omega⟩) : EReal)) = (x : EReal) ∧
    biased (fun i => (P i : EReal)) b g j s t =
      if (gap s t).sle 128#32 then ((x * (1 / 8) - h * ((gap s t).toInt : ℝ) : ℝ) : EReal) else ⊥ := by
  obtain ⟨h, hh⟩ := slope_real g j
  refine ⟨∑ e : Fin 64, P (ix3 b t ⟨2560 + (g * 64 + e), by omega⟩) * P (ix3 b s ⟨2048 + (g * 256 + j * 64 + e), by omega⟩), h, hh, ?_, ?_, ?_⟩
  · unfold dot
    simp only [← EReal.coe_mul, Soft.coe_sum]
  · simp only [← EReal.coe_mul, Soft.coe_sum]
    congr 1
    refine Finset.sum_congr rfl fun e _ => ?_
    rw [mul_comm]
    have e1 : (⟨2560 + lane g e, by have := (lane g e).isLt; omega⟩ : Fin 5376) = ⟨2560 + (g * 64 + e), by omega⟩ :=
      Fin.ext (by show 2560 + (64 * (g : ℕ) + e) = 2560 + ((g : ℕ) * 64 + e); omega)
    have e2 : (⟨2048 + (64 * (4 * g + j) + e), by omega⟩ : Fin 5376) = ⟨2048 + (g * 256 + j * 64 + e), by omega⟩ :=
      Fin.ext (by show 2048 + (64 * (4 * (g : ℕ) + j) + e) = 2048 + ((g : ℕ) * 256 + j * 64 + e); omega)
    rw [e1, e2]
  · unfold biased
    have hd' : dot (fun i => (P i : EReal)) b g j s t = (((∑ e : Fin 64, P (ix3 b t ⟨2560 + (g * 64 + e), by omega⟩) *
        P (ix3 b s ⟨2048 + (g * 256 + j * 64 + e), by omega⟩)) * (1 / 8) : ℝ) : EReal) := by
      unfold dot
      simp only [← EReal.coe_mul, Soft.coe_sum]
    rw [hd', show Ideal.ofBits .f32 (Cert.SwRefIdeal.lit0 (S8.rowMajor (ix1 (hd g j)))) = (h : EReal) from hh]
    show Scalar.select (BitVec.ofBool ((gap s t).sle 128#32)) (_ - _ * (((gap s t).toInt : ℝ) : EReal)) _ = _
    cases (gap s t).sle 128#32 with
    | true => rw [← EReal.coe_mul, ← EReal.coe_sub]; rfl
    | false => rfl

theorem biased_ne_top (s t : Fin 8192) : biased (fun i => (P i : EReal)) b g j s t ≠ ⊤ := by
  obtain ⟨x, h, -, -, -, e⟩ := biased_cases P b g j s t
  rw [e]; split
  · exact EReal.coe_ne_top _
  · exact bot_ne_top

theorem biased_out (s t : Fin 8192) (ht : ∀ c, keyAt s c ≠ t) : biased (fun i => (P i : EReal)) b g j s t = ⊥ := by
  obtain ⟨x, h, -, -, -, e⟩ := biased_cases P b g j s t
  rw [e]; split
  · rename_i hn
    obtain ⟨c, hc⟩ := key_read_of_near s t (near s t hn)
    exact absurd hc (ht c)
  · rfl

/-- The kernel's score is the reference's under the scale. -/
theorem score_eq (s t : Fin 8192) :
    (∑ e : Fin 64, (P (ix3 b s ⟨2048 + (64 * (4 * g + j) + e), by omega⟩) : EReal) *
      (P (ix3 b t ⟨2560 + lane g e, by have := (lane g e).isLt; omega⟩) : EReal)) * cq
      + tilt (slope g j) (BitVec.ofNat 32 t - BitVec.ofNat 32 s) * Whole.cl
    = biased (fun i => (P i : EReal)) b g j s t * Soft.cl := by
  obtain ⟨x, h, hs, -, hx, e⟩ := biased_cases P b g j s t
  rw [e, hx, hs]
  unfold tilt
  show _ + Scalar.select (BitVec.ofBool ((gap s t).sle 128#32)) (-(_ * (((gap s t).toInt : ℝ) : EReal))) _ * _ = _
  cases (gap s t).sle 128#32 with
  | true =>
    show (x : EReal) * _ + (-((h : EReal) * (((gap s t).toInt : ℝ) : EReal))) * _ = ((_ : ℝ) : EReal) * _
    rw [← EReal.coe_mul, ← EReal.coe_mul, ← EReal.coe_neg, ← EReal.coe_mul, ← EReal.coe_add, ← EReal.coe_mul]
    congr 1
    have := (Real.log_pos (by norm_num : (1 : ℝ) < 2)).ne'
    field_simp
    ring
  | false =>
    show (x : EReal) * _ + ⊥ * _ = ⊥ * _
    rw [show (⊥ : EReal) * Whole.cl = ⊥ from Soft.bot_cl, EReal.add_bot]

/-- The kernel's head is the reference's. -/
theorem head_eq (K : S8.Idx → ℝ) (s : Fin 8192) (d : Fin 64) (n : Fin 512) (hn : (n : ℕ) = 128 * j + (64 * g + d)) :
    headVal (fun i => (K i : EReal)) (fun i => (P i : EReal)) b s g j d
      = Cert.SwRefIdeal.Term.whole (F := Ideal) (fun i => (K i : EReal)) (fun i => (P i : EReal)) (ix3 b s n) := by
  rw [Cert.SwRefIdeal.Term.whole_apply _ _ b s g j d n hn]
  have e1 : (⟨4 * g + j, by omega⟩ : Fin 8) = hd g j := Fin.ext (by show 4 * (g : ℕ) + j = g * 4 + j; omega)
  have e2 : (⟨2688 + lane g d, by have := (lane g d).isLt; omega⟩ : Fin 5376) = ⟨2688 + (g * 64 + d), by omega⟩ :=
    Fin.ext (by show 2688 + (64 * (g : ℕ) + d) = 2688 + ((g : ℕ) * 64 + d); omega)
  have e3 : (⟨2816 + (64 * (4 * g + j) + d), by omega⟩ : Fin 5376) = ⟨2816 + (g * 256 + j * 64 + d), by omega⟩ :=
    Fin.ext (by show 2816 + (64 * (4 * (g : ℕ) + j) + d) = 2816 + ((g : ℕ) * 256 + j * 64 + d); omega)
  unfold headVal
  rw [e1, e2, e3]
  refine congrArg (· * _) ?_
  unfold most
  have h := Soft.attend_eq (biased (fun i => (P i : EReal)) b g j s) (fun t => P (ix3 b t ⟨2688 + (g * 64 + d), by omega⟩))
    (K (ix1 (hd g j))) (keyAt s) (keyAt_injective s) (biased_out P b g j s) (biased_ne_top P b g j s)
  refine Eq.trans ?_ h
  unfold attend Whole.top
  have hf : (fun c : Fin 384 => (∑ e : Fin 64, (P (ix3 b s ⟨2048 + (64 * (4 * g + j) + e), by omega⟩) : EReal) *
      (P (ix3 b (keyAt s c) ⟨2560 + lane g e, by have := (lane g e).isLt; omega⟩) : EReal)) * cq
      + tilt (slope g j) (BitVec.ofNat 32 (keyAt s c) - BitVec.ofNat 32 s) * Whole.cl)
      = fun c => biased (fun i => (P i : EReal)) b g j s (keyAt s c) * Soft.cl := funext fun c => score_eq P b g j s (keyAt s c)
  rw [hf]

/-- The array the kernel leaves is the reference's, for arguments whose entries are real numbers. -/
theorem result (m : (ℓ : Loc nD τ sig) → Buf (Elt Ideal) ℓ) (c : Dev nD)
    (hK : ∀ i : S8.Idx, ∃ r : ℝ, (show FVec Ideal S8 .f32 from m ((c : Thread nD τ).loc main_arg0)) i = (r : EReal))
    (hP : ∀ i : S8x8192x5376.Idx, ∃ r : ℝ, (show FVec Ideal S8x8192x5376 .f32 from m ((c : Thread nD τ).loc main_arg1)) i = (r : EReal)) :
    (dats m 0 c).arrAt 6 (cfgs 0).N
      = Cert.SwRefIdeal.Term.whole (F := Ideal) (m ((c : Thread nD τ).loc main_arg0)) (m ((c : Thread nD τ).loc main_arg1)) := by
  choose K hK using hK
  choose P hP using hP
  have eK : m ((c : Thread nD τ).loc main_arg0) = fun i => (K i : EReal) := funext hK
  have eP : m ((c : Thread nD τ).loc main_arg1) = fun i => (P i : EReal) := funext hP
  refine result_of m c _ fun b s g j d n hn => ?_
  rw [eK, eP]
  exact head_eq P b g j K s d n hn

theorem bits_top : Ideal.ofBits .f32 0x7F800000#32 = ⊤ := by
  simp [Ideal.ofBits, Ideal.ieee]

/-- A number whose absolute value is below infinity is real. -/
theorem real_of_abs (x : EReal) (h : Ideal.cmp .olt (max x (-x)) (Ideal.ofBits .f32 0x7F800000#32) = 1#1) :
    ∃ r : ℝ, x = (r : EReal) := by
  rw [bits_top] at h
  induction x using EReal.rec with
  | bot => exact absurd h (by simp [Ideal.cmp])
  | top => exact absurd h (by simp [Ideal.cmp])
  | coe r => exact ⟨r, rfl⟩

end Cert.SwIdeal.Join

end
-- ==== Proof.lean ====
module

public import proofs.«01_k».proof.Defs
public import proofs.«01_k».proof.Proof.Gen.Sw
public import proofs.«01_k».proof.Proof.Gen.Sw.Skeleton
public import proofs.«01_k».proof.Proof.Gen.Sw.Loops
public import proofs.«01_k».proof.Proof.Gen.Sw.Launch
public import proofs.«01_k».proof.Proof.Gen.Sw.Points
public import proofs.«01_k».proof.Proof.Gen.Sw.Frame
public import proofs.«01_k».proof.Proof.Gen.SwIdeal
public import proofs.«01_k».proof.Proof.Gen.SwIdeal.Skeleton
public import proofs.«01_k».proof.Proof.Gen.SwIdeal.Loops
public import proofs.«01_k».proof.Proof.Gen.SwIdeal.Launch
public import proofs.«01_k».proof.Proof.Gen.SwIdeal.Points
public import proofs.«01_k».proof.Proof.Gen.SwIdeal.Frame
public import proofs.«01_k».proof.Proof.Gen.SwRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.SwIdeal.Value
public import proofs.«01_k».proof.Proof.Gen.SwRefIdeal.Run
public import proofs.«01_k».proof.Proof.Gen.InProjIdeal.Value
public import proofs.«01_k».proof.Proof.Gen.InProjRefIdeal.Run
public import proofs.«01_k».proof.Proof.Gen.OutProjIdeal.Value
public import proofs.«01_k».proof.Proof.Gen.OutProjRefIdeal.Run
public import proofs.«01_k».proof.Proof.Gen.OutProjSample
public import proofs.«01_k».proof.Proof.Gen.OutProjSample.Skeleton
public import proofs.«01_k».proof.Proof.Gen.OutProjSample.Launch
public import proofs.«01_k».proof.Proof.Gen.OutProjSample.Points
public import proofs.«01_k».proof.Proof.Gen.OutProjSample.Frame
public import proofs.«01_k».proof.Proof.Gen.OutProjSampleIdeal
public import proofs.«01_k».proof.Proof.Gen.OutProjSampleIdeal.Skeleton
public import proofs.«01_k».proof.Proof.Gen.OutProjSampleIdeal.Launch
public import proofs.«01_k».proof.Proof.Gen.OutProjSampleIdeal.Points
public import proofs.«01_k».proof.Proof.Gen.OutProjSampleIdeal.Frame
public import proofs.«01_k».proof.Proof.Gen.OutProjSampleRefIdeal
public import proofs.«01_k».proof.Proof.Gen.OutProjSampleIdeal.Value
public import proofs.«01_k».proof.Proof.Gen.OutProjSampleRefIdeal.Run
public import proofs.«01_k».proof.Proof.InProj
public import proofs.«01_k».proof.Proof.OutProj
public import proofs.«01_k».proof.Proof.OutProjSample
public import proofs.«01_k».proof.Proof.SwJoin
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Sw

/-- The input projection's result is its reference's at the extended reals. -/
theorem algebraicInProj : Cert.algebraic_InProjIdeal_InProjRefIdeal := by
  pair_intro
  · run_from Cert.InProjIdeal.Gen.run_main m g
  · run_from Cert.InProjRefIdeal.Value.run m' g'
    exact (Cert.InProjIdeal.Whole.result m c).symm

/-- The output projection's result is its reference's at the extended reals. -/
theorem algebraicOutProj : Cert.algebraic_OutProjIdeal_OutProjRefIdeal := by
  pair_intro
  · run_from Cert.OutProjIdeal.Gen.run_main m g
  · run_from Cert.OutProjRefIdeal.Value.run m' g'
    obtain ⟨h0, h1, h2, h3, h4, h5, h6, h7, h8⟩ := hagree c
    exact (Cert.OutProjRefIdeal.Term.run_eq m' c).trans
      ((Cert.OutProjRefIdeal.Term.whole_congr h0 h1 h2 h3 h4 h5 h6 h7 h8).trans (Cert.OutProjIdeal.Whole.result m c).symm)

/-- The second batch's output projection's result is its reference's at the extended reals. -/
theorem algebraicOutProjSample : Cert.algebraic_OutProjSampleIdeal_OutProjSampleRefIdeal := by
  pair_intro
  · run_from Cert.OutProjSampleIdeal.Gen.run_main m g
  · run_from Cert.OutProjSampleRefIdeal.Value.run m' g'
    obtain ⟨h0, h1, h2, h3, h4, h5, h6, h7, h8⟩ := hagree c
    exact (Cert.OutProjSampleRefIdeal.Term.run_eq m' c).trans
      ((Cert.OutProjSampleRefIdeal.Term.whole_congr h0 h1 h2 h3 h4 h5 h6 h7 h8).trans
        (Cert.OutProjSampleIdeal.Whole.result m c).symm)

/-- The sliding-window reference runs to its end from every memory. -/
theorem frameSwRef : Cert.quiescent_SwRefIdeal := by
  intro m g _
  run_from Cert.SwRefIdeal.Value.run m g
  · intro c; simp
  · funext p; obtain ⟨_, s⟩ := p; cases s with
    | reg s => exact Fin.elim0 s
    | dma s => exact Fin.elim0 s

/-- The input projection's reference runs to its end from every memory. -/
theorem frameInProjRef : Cert.quiescent_InProjRefIdeal := by
  intro m g _
  run_from Cert.InProjRefIdeal.Value.run m g
  · intro c; simp
  · funext p; obtain ⟨_, s⟩ := p; cases s with
    | reg s => exact Fin.elim0 s
    | dma s => exact Fin.elim0 s

/-- The output projection's reference runs to its end from every memory. -/
theorem frameOutProjRef : Cert.quiescent_OutProjRefIdeal := by
  intro m g _
  run_from Cert.OutProjRefIdeal.Value.run m g
  · intro c; simp
  · funext p; obtain ⟨_, s⟩ := p; cases s with
    | reg s => exact Fin.elim0 s
    | dma s => exact Fin.elim0 s

/-- The second batch's output projection's reference runs to its end from every memory. -/
theorem frameOutProjSampleRef : Cert.quiescent_OutProjSampleRefIdeal := by
  intro m g _
  run_from Cert.OutProjSampleRefIdeal.Value.run m g
  · intro c; simp
  · funext p; obtain ⟨_, s⟩ := p; cases s with
    | reg s => exact Fin.elim0 s
    | dma s => exact Fin.elim0 s

/-- The two named numbers of the sliding-window kernel are the rounded values of its constants. -/
theorem preservesSw : Cert.preserves_Sw_SwIdeal :=
  ⟨IdealRules.named_const.statement Cert.SwIdeal.κ "qscale" .f32 0x3E38AA3B#32 (((8 * (Real.log 2))⁻¹ : ℝ) : EReal) rfl,
   IdealRules.named_const.statement Cert.SwIdeal.κ "log2e" .f32 0x3FB8AA3B#32 (((Real.log 2)⁻¹ : ℝ) : EReal) rfl⟩

/-- The precondition's side conditions. -/
theorem preFacts : Cert.Pre_finite.Facts := ⟨by decide, by decide⟩

/-- The sliding-window kernel's result is its reference's at the extended reals, for finite arguments. -/
theorem algebraicSw : Cert.algebraic_SwIdeal_SwRefIdeal_pre_finite (hPre_finite := preFacts) := by
  pair_intro
  · run_from Cert.SwIdeal.Gen.run_main m g
    exact Cert.SwIdeal.Gen.V_main_arg1 m c
  · run_from Cert.SwRefIdeal.Value.run m' g'
    obtain ⟨h0, h1⟩ := hagree c
    exact (Cert.SwRefIdeal.Term.run_eq m' c).trans
      ((Cert.SwRefIdeal.Term.whole_congr h0 h1).trans
        (Cert.SwIdeal.Join.result m c (fun i => Cert.SwIdeal.Join.real_of_abs _ (congrFun (hpre c).1 i))
          (fun i => Cert.SwIdeal.Join.real_of_abs _ (congrFun (hpre c).2 i))).symm)

theorem claim : Cert.Claim :=
  ⟨Cert.Sw.Gen.facts, Cert.SwIdeal.Gen.facts, Cert.SwRefIdeal.Gen.facts, Cert.InProj.Gen.facts, Cert.InProjIdeal.Gen.facts,
   Cert.InProjRefIdeal.Gen.facts, Cert.OutProj.Gen.facts, Cert.OutProjIdeal.Gen.facts, Cert.OutProjRefIdeal.Gen.facts,
   Cert.OutProjSample.Gen.facts, Cert.OutProjSampleIdeal.Gen.facts, Cert.OutProjSampleRefIdeal.Gen.facts, preFacts,
   fun m g _ => Cert.Sw.Gen.frame m g, fun m g _ => Cert.SwIdeal.Gen.frame m g, fun m g _ => Cert.SwIdeal.Gen.frame m g,
   frameSwRef, fun m g _ => frameSwRef m g trivial,
   fun m g _ => Cert.InProj.Gen.frame m g, fun m g _ => Cert.InProjIdeal.Gen.frame m g, frameInProjRef,
   fun m g _ => Cert.OutProj.Gen.frame m g, fun m g _ => Cert.OutProjIdeal.Gen.frame m g, frameOutProjRef,
   fun m g _ => Cert.OutProjSample.Gen.frame m g, fun m g _ => Cert.OutProjSampleIdeal.Gen.frame m g, frameOutProjSampleRef,
   preservesSw, algebraicSw, trivial, algebraicInProj, trivial, algebraicOutProj, trivial, algebraicOutProjSample⟩

end Cert.Proof

end
